-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S4096x512 : Shape := ⟨2, ![4096, 512]⟩
abbrev S2x4096x512 : Shape := ⟨3, ![2, 4096, 512]⟩
abbrev S4x1024x512 : Shape := ⟨3, ![4, 1024, 512]⟩
abbrev S4x8x128 : Shape := ⟨3, ![4, 8, 128]⟩
abbrev S2 : Shape := ⟨1, ![2]⟩
abbrev S4 : Shape := ⟨1, ![4]⟩
abbrev S_ : Shape := ⟨0, ![]⟩
abbrev S1 : Shape := ⟨1, ![1]⟩
abbrev S1x4096x512 : Shape := ⟨3, ![1, 4096, 512]⟩
abbrev S1024x512 : Shape := ⟨2, ![1024, 512]⟩
abbrev S1x1024x512 : Shape := ⟨3, ![1, 1024, 512]⟩
abbrev S1x1x1 : Shape := ⟨3, ![1, 1, 1]⟩
abbrev S1x8x128 : Shape := ⟨3, ![1, 8, 128]⟩
abbrev S8x128 : Shape := ⟨2, ![8, 128]⟩
abbrev S1x4x8x128 : Shape := ⟨4, ![1, 4, 8, 128]⟩
abbrev S1x1x1x1 : Shape := ⟨4, ![1, 1, 1, 1]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S4096x512, .f32⟩
  | .local _ .vmem, ⟨0, _⟩ => ⟨S1024x4096, .f32⟩
  | .local _ .vmem, ⟨1, _⟩ => ⟨S4096x512, .f32⟩
  | .local _ .vmem, ⟨2, _⟩ => ⟨S2x4096x512, .f32⟩
  | .local _ .vmem, ⟨3, _⟩ => ⟨S4x1024x512, .f32⟩
  | .local _ .vmem, ⟨4, _⟩ => ⟨S4x1024x512, .fp8e4m3⟩
  | .local _ .vmem, ⟨5, _⟩ => ⟨S4x1024x512, .fp8e4m3⟩
  | .local _ .vmem, ⟨6, _⟩ => ⟨S4x8x128, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_179 : BitVec 32 := 0#32
  let c0_i32_177 : BitVec 32 := 0#32
  let c1_i32_178 : BitVec 32 := 1#32
  let v246 : BitVec 32 := Scalar.muli c0_i32_177 c1_i32_178
  let v247 : BitVec 32 := Scalar.addi c0_i32_179 v246
  v247.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_179 : BitVec 32 := 0#32
  let c1_i32_177 : BitVec 32 := 1#32
  let c1_i32_178 : BitVec 32 := 1#32
  let v246 : BitVec 32 := Scalar.muli c1_i32_177 c1_i32_178
  let v247 : BitVec 32 := Scalar.addi c0_i32_179 v246
  v247.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_179 : BitVec 32 := 0#32
  let c2_i32_177 : BitVec 32 := 2#32
  let c1_i32_178 : BitVec 32 := 1#32
  let v246 : BitVec 32 := Scalar.muli c2_i32_177 c1_i32_178
  let v247 : BitVec 32 := Scalar.addi c0_i32_179 v246
  v247.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_179 : BitVec 32 := 0#32
  let c3_i32_177 : BitVec 32 := 3#32
  let c1_i32_178 : BitVec 32 := 1#32
  let v246 : BitVec 32 := Scalar.muli c3_i32_177 c1_i32_178
  let v247 : BitVec 32 := Scalar.addi c0_i32_179 v246
  v247.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v117 : Index := Scalar.indexCast v2
  let c0_91 : Index := 0#32
  let c0_92 : Index := 0#32
  ![v117.toNat, 0, 0]
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_93 : BitVec 32 := 0#32
  let v121 : BitVec 1 := Scalar.cmpi .ne v2 c0_i32_93
  let v122 : BitVec 32 := Scalar.extui v121
  let c0_i32_94 : BitVec 32 := 0#32
  let v123 : BitVec 1 := Scalar.cmpi .ne v122 c0_i32_94
  v123

def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_180 : BitVec 32 := 0#32
  let c0_i32_181 : BitVec 32 := 0#32
  ![v2.toNat, 0, 0]
def k0_dev5 : Nat :=
  let c0_i32_179 : BitVec 32 := 0#32
  let c0_i32_177 : BitVec 32 := 0#32
  let c1_i32_178 : BitVec 32 := 1#32
  let v246 : BitVec 32 := Scalar.muli c0_i32_177 c1_i32_178
  let v247 : BitVec 32 := Scalar.addi c0_i32_179 v246
  v247.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_95 : BitVec 32 := 1#32
  let v124 : BitVec 1 := Scalar.cmpi .ne v2 c1_i32_95
  let v125 : BitVec 32 := Scalar.extui v124
  let c0_i32_96 : BitVec 32 := 0#32
  let v126 : BitVec 1 := Scalar.cmpi .ne v125 c0_i32_96
  v126

def k0_off4 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_180 : BitVec 32 := 0#32
  let c0_i32_181 : BitVec 32 := 0#32
  ![v2.toNat, 0, 0]
def k0_dev6 : Nat :=
  let c0_i32_179 : BitVec 32 := 0#32
  let c1_i32_177 : BitVec 32 := 1#32
  let c1_i32_178 : BitVec 32 := 1#32
  let v246 : BitVec 32 := Scalar.muli c1_i32_177 c1_i32_178
  let v247 : BitVec 32 := Scalar.addi c0_i32_179 v246
  v247.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_97 : BitVec 32 := 2#32
  let v127 : BitVec 1 := Scalar.cmpi .ne v2 c2_i32_97
  let v128 : BitVec 32 := Scalar.extui v127
  let c0_i32_98 : BitVec 32 := 0#32
  let v129 : BitVec 1 := Scalar.cmpi .ne v128 c0_i32_98
  v129

def k0_off6 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_180 : BitVec 32 := 0#32
  let c0_i32_181 : BitVec 32 := 0#32
  ![v2.toNat, 0, 0]
def k0_dev7 : Nat :=
  let c0_i32_179 : BitVec 32 := 0#32
  let c2_i32_177 : BitVec 32 := 2#32
  let c1_i32_178 : BitVec 32 := 1#32
  let v246 : BitVec 32 := Scalar.muli c2_i32_177 c1_i32_178
  let v247 : BitVec 32 := Scalar.addi c0_i32_179 v246
  v247.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_99 : BitVec 32 := 3#32
  let v130 : BitVec 1 := Scalar.cmpi .ne v2 c3_i32_99
  let v131 : BitVec 32 := Scalar.extui v130
  let c0_i32_100 : BitVec 32 := 0#32
  let v132 : BitVec 1 := Scalar.cmpi .ne v131 c0_i32_100
  v132

def k0_off8 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_180 : BitVec 32 := 0#32
  let c0_i32_181 : BitVec 32 := 0#32
  ![v2.toNat, 0, 0]
def k0_dev8 : Nat :=
  let c0_i32_179 : BitVec 32 := 0#32
  let c3_i32_177 : BitVec 32 := 3#32
  let c1_i32_178 : BitVec 32 := 1#32
  let v246 : BitVec 32 := Scalar.muli c3_i32_177 c1_i32_178
  let v247 : BitVec 32 := Scalar.addi c0_i32_179 v246
  v247.toNat
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_101 : BitVec 32 := 0#32
  let v133 : BitVec 1 := Scalar.cmpi .ne v2 c0_i32_101
  let v134 : BitVec 32 := Scalar.extui v133
  let c0_i32_102 : BitVec 32 := 0#32
  let v135 : BitVec 1 := Scalar.cmpi .ne v134 c0_i32_102
  v135

def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_179 : BitVec 32 := 0#32
  let c0_i32_180 : BitVec 32 := 0#32
  ![v2.toNat, 0, 0]
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_103 : BitVec 32 := 1#32
  let v136 : BitVec 1 := Scalar.cmpi .ne v2 c1_i32_103
  let v137 : BitVec 32 := Scalar.extui v136
  let c0_i32_104 : BitVec 32 := 0#32
  let v138 : BitVec 1 := Scalar.cmpi .ne v137 c0_i32_104
  v138

def k0_off11 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_179 : BitVec 32 := 0#32
  let c0_i32_180 : BitVec 32 := 0#32
  ![v2.toNat, 0, 0]
def k0_cond11 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_105 : BitVec 32 := 2#32
  let v139 : BitVec 1 := Scalar.cmpi .ne v2 c2_i32_105
  let v140 : BitVec 32 := Scalar.extui v139
  let c0_i32_106 : BitVec 32 := 0#32
  let v141 : BitVec 1 := Scalar.cmpi .ne v140 c0_i32_106
  v141

def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_179 : BitVec 32 := 0#32
  let c0_i32_180 : BitVec 32 := 0#32
  ![v2.toNat, 0, 0]
def k0_cond12 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_107 : BitVec 32 := 3#32
  let v142 : BitVec 1 := Scalar.cmpi .ne v2 c3_i32_107
  let v143 : BitVec 32 := Scalar.extui v142
  let c0_i32_108 : BitVec 32 := 0#32
  let v144 : BitVec 1 := Scalar.cmpi .ne v143 c0_i32_108
  v144

def k0_off13 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_179 : BitVec 32 := 0#32
  let c0_i32_180 : BitVec 32 := 0#32
  ![v2.toNat, 0, 0]
def k0_cond13 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_124 : BitVec 32 := 0#32
  let v165 : BitVec 1 := Scalar.cmpi .ne v2 c0_i32_124
  let v166 : BitVec 32 := Scalar.extui v165
  let c0_i32_125 : BitVec 32 := 0#32
  let v167 : BitVec 1 := Scalar.cmpi .ne v166 c0_i32_125
  v167

def k0_off14 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_181 : BitVec 32 := 0#32
  let c0_i32_182 : BitVec 32 := 0#32
  ![v2.toNat, 0, 0]
def k0_dev9 : Nat :=
  let c0_i32_180 : BitVec 32 := 0#32
  let c0_i32_178 : BitVec 32 := 0#32
  let c1_i32_179 : BitVec 32 := 1#32
  let v246 : BitVec 32 := Scalar.muli c0_i32_178 c1_i32_179
  let v247 : BitVec 32 := Scalar.addi c0_i32_180 v246
  v247.toNat
def k0_cond14 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_134 : BitVec 32 := 1#32
  let v180 : BitVec 1 := Scalar.cmpi .ne v2 c1_i32_134
  let v181 : BitVec 32 := Scalar.extui v180
  let c0_i32_135 : BitVec 32 := 0#32
  let v182 : BitVec 1 := Scalar.cmpi .ne v181 c0_i32_135
  v182

def k0_off16 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_181 : BitVec 32 := 0#32
  let c0_i32_182 : BitVec 32 := 0#32
  ![v2.toNat, 0, 0]
def k0_dev10 : Nat :=
  let c0_i32_180 : BitVec 32 := 0#32
  let c1_i32_178 : BitVec 32 := 1#32
  let c1_i32_179 : BitVec 32 := 1#32
  let v246 : BitVec 32 := Scalar.muli c1_i32_178 c1_i32_179
  let v247 : BitVec 32 := Scalar.addi c0_i32_180 v246
  v247.toNat
def k0_cond15 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_144 : BitVec 32 := 2#32
  let v195 : BitVec 1 := Scalar.cmpi .ne v2 c2_i32_144
  let v196 : BitVec 32 := Scalar.extui v195
  let c0_i32_145 : BitVec 32 := 0#32
  let v197 : BitVec 1 := Scalar.cmpi .ne v196 c0_i32_145
  v197

def k0_off18 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off19 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_181 : BitVec 32 := 0#32
  let c0_i32_182 : BitVec 32 := 0#32
  ![v2.toNat, 0, 0]
def k0_dev11 : Nat :=
  let c0_i32_180 : BitVec 32 := 0#32
  let c2_i32_178 : BitVec 32 := 2#32
  let c1_i32_179 : BitVec 32 := 1#32
  let v246 : BitVec 32 := Scalar.muli c2_i32_178 c1_i32_179
  let v247 : BitVec 32 := Scalar.addi c0_i32_180 v246
  v247.toNat
def k0_cond16 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_154 : BitVec 32 := 3#32
  let v210 : BitVec 1 := Scalar.cmpi .ne v2 c3_i32_154
  let v211 : BitVec 32 := Scalar.extui v210
  let c0_i32_155 : BitVec 32 := 0#32
  let v212 : BitVec 1 := Scalar.cmpi .ne v211 c0_i32_155
  v212

def k0_off20 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_181 : BitVec 32 := 0#32
  let c0_i32_182 : BitVec 32 := 0#32
  ![v2.toNat, 0, 0]
def k0_dev12 : Nat :=
  let c0_i32_180 : BitVec 32 := 0#32
  let c3_i32_178 : BitVec 32 := 3#32
  let c1_i32_179 : BitVec 32 := 1#32
  let v246 : BitVec 32 := Scalar.muli c3_i32_178 c1_i32_179
  let v247 : BitVec 32 := Scalar.addi c0_i32_180 v246
  v247.toNat
def k0_off22 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v213 : Index := Scalar.indexCast v2
  let c0_156 : Index := 0#32
  let c0_157 : Index := 0#32
  ![v213.toNat, 0, 0]
def k0_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_158 : BitVec 32 := 1024#32
  let v219 : BitVec 32 := Scalar.muli v2 c1024_i32_158
  let v220 : Index := Scalar.indexCast v219
  let c0_159 : Index := 0#32
  ![v220.toNat, 0]
def k0_cond21 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_168 : BitVec 32 := 0#32
  let v234 : BitVec 1 := Scalar.cmpi .ne v2 c0_i32_168
  let v235 : BitVec 32 := Scalar.extui v234
  let c0_i32_169 : BitVec 32 := 0#32
  let v236 : BitVec 1 := Scalar.cmpi .ne v235 c0_i32_169
  v236

def k0_off24 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_182 : BitVec 32 := 0#32
  let c0_i32_183 : BitVec 32 := 0#32
  ![v2.toNat, 0, 0]
def k0_cond22 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_170 : BitVec 32 := 1#32
  let v237 : BitVec 1 := Scalar.cmpi .ne v2 c1_i32_170
  let v238 : BitVec 32 := Scalar.extui v237
  let c0_i32_171 : BitVec 32 := 0#32
  let v239 : BitVec 1 := Scalar.cmpi .ne v238 c0_i32_171
  v239

def k0_off25 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_182 : BitVec 32 := 0#32
  let c0_i32_183 : BitVec 32 := 0#32
  ![v2.toNat, 0, 0]
def k0_cond23 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_172 : BitVec 32 := 2#32
  let v240 : BitVec 1 := Scalar.cmpi .ne v2 c2_i32_172
  let v241 : BitVec 32 := Scalar.extui v240
  let c0_i32_173 : BitVec 32 := 0#32
  let v242 : BitVec 1 := Scalar.cmpi .ne v241 c0_i32_173
  v242

def k0_off26 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_182 : BitVec 32 := 0#32
  let c0_i32_183 : BitVec 32 := 0#32
  ![v2.toNat, 0, 0]
def k0_cond24 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_174 : BitVec 32 := 3#32
  let v243 : BitVec 1 := Scalar.cmpi .ne v2 c3_i32_174
  let v244 : BitVec 32 := Scalar.extui v243
  let c0_i32_175 : BitVec 32 := 0#32
  let v245 : BitVec 1 := Scalar.cmpi .ne v244 c0_i32_175
  v245

def k0_off27 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_182 : BitVec 32 := 0#32
  let c0_i32_183 : BitVec 32 := 0#32
  ![v2.toNat, 0, 0]
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 24
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .fp8e4m3⟩
  | .hbm, ⟨22, _⟩ => ⟨S1x1, .f32⟩
  | .hbm, ⟨23, _⟩ => ⟨S4096x2048, .f32⟩
  | .local _ .vmem, ⟨0, _⟩ => ⟨S4096x2048, .fp8e4m3⟩
  | .local _ .vmem, ⟨1, _⟩ => ⟨S1x1, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_cst_3 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Slots.lean ====
/-
Blocks of a stacked buffer.

The kernel's scratch buffers are stacks of `n` matrices, `[n, a, b]`, and every transfer, load and store of the
kernel touches one matrix of a stack (the output: one block of rows). This file names the elements of one matrix
(`lead p`) and of one block of rows (`rows k p`), and the contents of a stack given matrix by matrix (`stack`),
and says what a view of one matrix reads and writes.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ValueLayout
public import Idealize.ShloMosaic.Lib.Pipeline.ValueKit.Geometry
public import Idealize.ShloMosaic.Lib.Ring
public import Idealize.ShloMosaic.Lib.Tactic

@[expose] public section

noncomputable section

namespace Cert.Proof

open Idealize.ShloMosaic Idealize.ShloMosaic.ValueIdx

/-! ## One matrix of a stack, one block of rows -/

/-- The elements of matrix `p` of a stack of `n` matrices. -/
def lead {n a b : ℕ} (p : ℕ) : Finset (⟨3, ![n, a, b]⟩ : Shape).Idx := Finset.univ.filter fun i => (i 0).val = p

/-- The elements of rows `[k * p, k * (p + 1))` of a matrix. -/
def rows {n b : ℕ} (k p : ℕ) : Finset (⟨2, ![n, b]⟩ : Shape).Idx := Finset.univ.filter fun i => k * p ≤ (i 0).val ∧ (i 0).val < k * p + k

theorem mem_lead {n a b p : ℕ} {i : (⟨3, ![n, a, b]⟩ : Shape).Idx} : i ∈ lead p ↔ (i 0).val = p := by
  unfold lead; rw [Finset.mem_filter]; exact ⟨fun h => h.2, fun h => ⟨Finset.mem_univ _, h⟩⟩

theorem mem_rows {n b k p : ℕ} {i : (⟨2, ![n, b]⟩ : Shape).Idx} : i ∈ rows k p ↔ k * p ≤ (i 0).val ∧ (i 0).val < k * p + k := by
  unfold rows; rw [Finset.mem_filter]; exact ⟨fun h => h.2, fun h => ⟨Finset.mem_univ _, h⟩⟩

theorem lead_disj {n a b : ℕ} (p q : Fin n) (h : p ≠ q) : Disjoint (lead (n := n) (a := a) (b := b) p.val) (lead q.val) := by
  rw [Finset.disjoint_left]
  intro i hi hj
  exact h (Fin.ext ((mem_lead.mp hi).symm.trans (mem_lead.mp hj)))

theorem lead_cover {n a b : ℕ} : (Finset.univ.biUnion fun p : Fin n => lead (n := n) (a := a) (b := b) p.val) = Finset.univ := by
  ext i
  simp only [Finset.mem_biUnion, Finset.mem_univ, true_and, iff_true]
  exact ⟨i 0, mem_lead.mpr rfl⟩

theorem rows_disj {n b k m : ℕ} (p q : Fin m) (h : p ≠ q) : Disjoint (rows (n := n) (b := b) k p.val) (rows k q.val) := by
  rw [Finset.disjoint_left]
  intro i hi hj
  have h1 := mem_rows.mp hi
  have h2 := mem_rows.mp hj
  refine h (Fin.ext ?_)
  by_contra hne
  rcases Nat.lt_or_gt_of_ne hne with hlt | hlt
  · have := Nat.mul_le_mul_left k hlt
    rw [Nat.succ_eq_add_one, Nat.mul_add] at this; omega
  · have := Nat.mul_le_mul_left k hlt
    rw [Nat.succ_eq_add_one, Nat.mul_add] at this; omega

theorem rows_cover {n b k m : ℕ} (hk : 0 < k) (hn : n = k * m) :
    (Finset.univ.biUnion fun p : Fin m => rows (n := n) (b := b) k p.val) = Finset.univ := by
  ext i
  simp only [Finset.mem_biUnion, Finset.mem_univ, true_and, iff_true]
  have hi : (i 0).val < n := (i 0).isLt
  refine ⟨⟨(i 0).val / k, Nat.div_lt_of_lt_mul (by rw [← hn]; exact hi)⟩, mem_rows.mpr ?_⟩
  have := Nat.div_add_mod (i 0).val k
  have := Nat.mod_lt (i 0).val hk
  constructor <;> simp only <;> omega

/-- The rectangle of matrix `p` holds the elements `lead p`. -/
theorem rect_lead {n a b p : ℕ} {o : Fin 3 → ℕ} (ho : o = ![p, 0, 0])
    (h : ∀ x, o x + (![1, a, b] : Fin 3 → ℕ) x ≤ (⟨3, ![n, a, b]⟩ : Shape).size x) :
    (Rect.unit (s := ⟨3, ![n, a, b]⟩) o ![1, a, b] h).set = lead p := by
  subst ho
  ext i
  rw [mem_lead, Rect.mem_set_unit]
  constructor
  · intro hi
    have h0 := hi 0
    simp only [Matrix.cons_val_zero] at h0
    omega
  · intro hi x
    match x with
    | ⟨0, _⟩ => exact ⟨Nat.le_of_eq hi.symm, by show (i 0).val < p + 1; omega⟩
    | ⟨1, _⟩ => exact ⟨Nat.zero_le _, by show (i 1).val < 0 + a; rw [Nat.zero_add]; exact (i 1).isLt⟩
    | ⟨2, _⟩ => exact ⟨Nat.zero_le _, by show (i 2).val < 0 + b; rw [Nat.zero_add]; exact (i 2).isLt⟩

/-- The rectangle of row block `p` holds the elements `rows k p`. -/
theorem rect_rows {n b k p : ℕ} {o : Fin 2 → ℕ} (ho : o = ![k * p, 0])
    (h : ∀ x, o x + (![k, b] : Fin 2 → ℕ) x ≤ (⟨2, ![n, b]⟩ : Shape).size x) :
    (Rect.unit (s := ⟨2, ![n, b]⟩) o ![k, b] h).set = rows k p := by
  subst ho
  ext i
  rw [mem_rows, Rect.mem_set_unit]
  constructor
  · intro hi
    exact hi 0
  · intro hi x
    match x with
    | ⟨0, _⟩ => exact hi
    | ⟨1, _⟩ => exact ⟨Nat.zero_le _, by show (i 1).val < 0 + b; rw [Nat.zero_add]; exact (i 1).isLt⟩

/-! ## The contents of a stack -/

/-- The elements of columns `[k * p, k * (p + 1))` of a matrix. -/
def cols {n b : ℕ} (k p : ℕ) : Finset (⟨2, ![n, b]⟩ : Shape).Idx := Finset.univ.filter fun i => (i 1).val / k = p

theorem mem_cols {n b k p : ℕ} {i : (⟨2, ![n, b]⟩ : Shape).Idx} : i ∈ cols k p ↔ (i 1).val / k = p := by
  unfold cols; rw [Finset.mem_filter]; exact ⟨fun h => h.2, fun h => ⟨Finset.mem_univ _, h⟩⟩

theorem cols_disj {n b k m : ℕ} (p q : Fin m) (h : p ≠ q) : Disjoint (cols (n := n) (b := b) k p.val) (cols k q.val) := by
  rw [Finset.disjoint_left]
  intro i hi hj
  exact h (Fin.ext ((mem_cols.mp hi).symm.trans (mem_cols.mp hj)))

theorem cols_cover {n b k m : ℕ} (hb : b = k * m) :
    (Finset.univ.biUnion fun p : Fin m => cols (n := n) (b := b) k p.val) = Finset.univ := by
  ext i
  simp only [Finset.mem_biUnion, Finset.mem_univ, true_and, iff_true]
  exact ⟨⟨(i 1).val / k, Nat.div_lt_of_lt_mul (by rw [← hb]; exact (i 1).isLt)⟩, mem_cols.mpr rfl⟩

theorem rect_cols {n b k p : ℕ} (hk : 0 < k) {o : Fin 2 → ℕ} (ho : o = ![0, k * p])
    (h : ∀ x, o x + (![n, k] : Fin 2 → ℕ) x ≤ (⟨2, ![n, b]⟩ : Shape).size x) :
    (Rect.unit (s := ⟨2, ![n, b]⟩) o ![n, k] h).set = cols k p := by
  subst ho
  ext i
  have h1 := (i 1).isLt
  rw [Rect.mem_set_unit, mem_cols]
  have h0 : (i 0).val < n := (i 0).isLt
  constructor
  · intro hx
    have := hx 1
    have a : k * p ≤ (i 1).val := this.1
    have b' : (i 1).val < k * p + k := this.2
    exact (Nat.div_eq_iff hk).mpr ⟨by rw [Nat.mul_comm]; exact a, by rw [Nat.mul_comm]; omega⟩
  · intro hx x
    have hx' := (Nat.div_eq_iff hk).mp hx
    rw [Nat.mul_comm] at hx'
    match x with
    | ⟨0, _⟩ => exact ⟨Nat.zero_le _, by show (i 0).val < 0 + n; omega⟩
    | ⟨1, _⟩ => exact ⟨hx'.1, by show (i 1).val < k * p + k; omega⟩

/-- The stack whose matrix `p` is `w p`. -/
def stack {n a b : ℕ} {α : Type} (w : Fin n → (⟨3, ![1, a, b]⟩ : Shape).Idx → α) : (⟨3, ![n, a, b]⟩ : Shape).Idx → α :=
  fun i => w (i 0) (ix3 (⟨0, Nat.one_pos⟩ : Fin 1) (i 1) (i 2))

/-- Matrix `p` of the stack, read through its rectangle. -/
theorem stack_emb {n a b : ℕ} {α : Type} (w : Fin n → (⟨3, ![1, a, b]⟩ : Shape).Idx → α) (p : Fin n) {o : Fin 3 → ℕ} (ho : o = ![p.val, 0, 0])
    (h : ∀ x, o x + (![1, a, b] : Fin 3 → ℕ) x ≤ (⟨3, ![n, a, b]⟩ : Shape).size x)
    (k : (Rect.unit (s := ⟨3, ![n, a, b]⟩) o ![1, a, b] h).shape.Idx) :
    stack w ((Rect.unit (s := ⟨3, ![n, a, b]⟩) o ![1, a, b] h).emb k) = w p k := by
  subst ho
  unfold stack
  have e0 : ((Rect.unit (s := ⟨3, ![n, a, b]⟩) ![p.val, 0, 0] ![1, a, b] h).emb k) 0 = p := Fin.ext (by
    rw [ValueKit.rect_emb_unit_val]
    have : (k 0).val < 1 := (k 0).isLt
    show p.val + (k 0).val = p.val; omega)
  rw [e0]
  refine congrArg (w p) (funext fun x => Fin.ext ?_)
  match x with
  | ⟨0, _⟩ => have : (k 0).val < 1 := (k 0).isLt; show 0 = (k 0).val; omega
  | ⟨1, _⟩ => exact (ValueKit.rect_emb_unit_val _ _ _ _ _).trans (Nat.zero_add _)
  | ⟨2, _⟩ => exact (ValueKit.rect_emb_unit_val _ _ _ _ _).trans (Nat.zero_add _)

/-- The matrix whose row block `p` is `w p`. -/
def pile {n k b m : ℕ} {α : Type} (hk : 0 < k) (hn : n = k * m) (w : Fin m → (⟨2, ![k, b]⟩ : Shape).Idx → α) : (⟨2, ![n, b]⟩ : Shape).Idx → α :=
  fun i => w ⟨(i 0).val / k, Nat.div_lt_of_lt_mul (by rw [← hn]; exact (i 0).isLt)⟩ (ix2 ⟨(i 0).val % k, Nat.mod_lt _ hk⟩ (i 1))

/-- Row block `p` of the pile, read through its rectangle. -/
theorem pile_emb {n k b m : ℕ} {α : Type} (hk : 0 < k) (hn : n = k * m) (w : Fin m → (⟨2, ![k, b]⟩ : Shape).Idx → α) (p : Fin m)
    {o : Fin 2 → ℕ} (ho : o = ![k * p.val, 0]) (h : ∀ x, o x + (![k, b] : Fin 2 → ℕ) x ≤ (⟨2, ![n, b]⟩ : Shape).size x)
    (z : (Rect.unit (s := ⟨2, ![n, b]⟩) o ![k, b] h).shape.Idx) :
    pile hk hn w ((Rect.unit (s := ⟨2, ![n, b]⟩) o ![k, b] h).emb z) = w p z := by
  subst ho
  unfold pile
  have hz : (z 0).val < k := (z 0).isLt
  have e0 : (((Rect.unit (s := ⟨2, ![n, b]⟩) ![k * p.val, 0] ![k, b] h).emb z) 0).val = k * p.val + (z 0).val :=
    ValueKit.rect_emb_unit_val _ _ _ _ _
  have e1 : (((Rect.unit (s := ⟨2, ![n, b]⟩) ![k * p.val, 0] ![k, b] h).emb z) 1).val = (z 1).val :=
    (ValueKit.rect_emb_unit_val _ _ _ _ _).trans (Nat.zero_add _)
  have ed : (k * p.val + (z 0).val) / k = p.val := by
    rw [Nat.mul_add_div hk, Nat.div_eq_of_lt hz, Nat.add_zero]
  have em : (k * p.val + (z 0).val) % k = (z 0).val := by
    rw [Nat.mul_add_mod, Nat.mod_eq_of_lt hz]
  refine congr (congrArg w (Fin.ext ?_)) (funext fun x => Fin.ext ?_)
  · show _ / k = p.val
    rw [e0, ed]
  · match x with
    | ⟨0, _⟩ => show _ % k = (z 0).val; rw [e0, em]
    | ⟨1, _⟩ => exact e1

/-- What is written through a view agrees, on the view's elements, with any contents that read the same through it. -/
theorem write_agrees {sig : RefSig} {κ : Kind} {sp : Space} {s : Shape} {e : EltTy} {Val : EltTy → Type} (v : View sig κ sp s e)
    (f g : v.ty.Contents Val) (w : s.Idx → Val e) (h : v.read Val g = w) : ∀ i ∈ v.set, v.write Val f w Finset.univ i = g i := by
  intro i hi
  obtain ⟨x, -, rfl⟩ := Finset.mem_map.mp hi
  rw [View.write_emb_of_mem _ _ (Finset.mem_univ x), ← h, View.read_apply, cast_cast, cast_eq]

end Cert.Proof

end
-- ==== Proof.Schedule.lean ====
/-
The protocol of the kernel, for every semaphore of it.

Four devices; `c` the device that runs, `p` a peer. The runtime's barrier semaphore of device `d` gets one unit from each
of its three peers; with its unit peer `p` hands over its own slot `d` of the amax buffer and its own slot `d` of the
receive buffer, which `d`'s transfers are going to fill. Then, for each peer `p`,

* `c` copies its amax tile into slot `c` of `p`'s amax buffer: its own send semaphore `(2, p)` hands back the share of the
  tile that was lent, `p`'s receive semaphore `(3, c)` hands `p` the slot, holding `c`'s tile;
* `c` copies block `p` of its quantised product into slot `c` of `p`'s receive buffer: its own send semaphore `(0, p)`
  hands back the block, `p`'s receive semaphore `(1, c)` hands `p` the slot, holding `c`'s block `p`.

Every one of those semaphores is used once, so the schedule has one round. The file names the buffers, the contents
every landing hands over, the schedule with its values at each semaphore, and what each device owes, in the order it
pays it: the barrier units, the tiles, the blocks.
-/
module

public import proofs.«01_k».proof.Proof.Slots

@[expose] public section

noncomputable section

namespace Cert.Proof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the exchange's rounds, the local copies' counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local copies' counters: its right half. -/
def EC : UEmb Counters (MT nD τ sig Unit (Elt F) ℕ UU ℕ) :=
  ((UEmb.inr : UEmb Counters (UB × Counters)).trans (UEmb.inr : UEmb (UB × Counters) UU)).trans
    (uEmb (nD := nD) (sig := sig) (Ix := Unit) (Val := Elt F) (Name := ℕ) (U := UU) (Lvl := ℕ))
instance EC_landsIn : (EC : UEmb Counters 𝕄).LandsIn (upEmb : UEmb _ 𝕄) := by unfold EC; infer_instance

variable (m : (ℓ : Loc nD τ sig) → Buf (Elt F) ℓ)

/-! ## Buffers -/

abbrev xM : Memref sig .tc .vmem S1024x4096 .f32 := Memref.whole cc0_stg0_0
abbrev oM : Memref sig .tc .vmem S4096x512 .f32 := Memref.whole cc0_stg1_0
abbrev wM : Memref sig .tc .hbm S4096x2048 .f32 := Memref.whole main_arg1
abbrev bM : Memref sig .tc .vmem S2x4096x512 .f32 := Memref.whole cc0_scratch0
abbrev yM : Memref sig .tc .vmem S4x1024x512 .f32 := Memref.whole cc0_scratch1
abbrev qM : Memref sig .tc .vmem S4x1024x512 .fp8e4m3 := Memref.whole cc0_scratch2
abbrev rM : Memref sig .tc .vmem S4x1024x512 .fp8e4m3 := Memref.whole cc0_scratch3
abbrev aM : Memref sig .tc .vmem S4x8x128 .f32 := Memref.whole cc0_scratch4

/-- Slot `p` of the amax buffer of device `d`, holding the slot of `f`. -/
def aPts (d : Dev nD) (p : Dev nD) (q : PosShare TreeShare) (f : Buf (Elt F) ((d : Thread nD τ).loc cc0_scratch4)) : sProp 𝕄 :=
  ((d : Thread nD τ).loc cc0_scratch4) ↦[(lead (n := 4) (a := 8) (b := 128) p.val)]{q} f
/-- Slot `p` of the receive buffer of device `d`. -/
def rPts (d : Dev nD) (p : Dev nD) (f : Buf (Elt F) ((d : Thread nD τ).loc cc0_scratch3)) : sProp 𝕄 :=
  ((d : Thread nD τ).loc cc0_scratch3) ↦[(lead (n := 4) (a := 1024) (b := 512) p.val)]{fullShare} f
/-- Block `p` of the quantised product of device `d`. -/
def qPts (d : Dev nD) (p : Dev nD) (f : Buf (Elt F) ((d : Thread nD τ).loc cc0_scratch2)) : sProp 𝕄 :=
  ((d : Thread nD τ).loc cc0_scratch2) ↦[(lead (n := 4) (a := 1024) (b := 512) p.val)]{fullShare} f
/-- Block `p` of the product of device `d`. -/
def yPts (d : Dev nD) (p : Dev nD) (f : Buf (Elt F) ((d : Thread nD τ).loc cc0_scratch1)) : sProp 𝕄 :=
  ((d : Thread nD τ).loc cc0_scratch1) ↦[(lead (n := 4) (a := 1024) (b := 512) p.val)]{fullShare} f
/-- Half `b` of the two columns blocks of `w` at hand on device `d`. -/
def bPts (d : Dev nD) (b : Fin 2) (f : Buf (Elt F) ((d : Thread nD τ).loc cc0_scratch0)) : sProp 𝕄 :=
  ((d : Thread nD τ).loc cc0_scratch0) ↦[(lead (n := 2) (a := 4096) (b := 512) b.val)]{fullShare} f
/-- Rows `[1024 p, 1024 (p + 1))` of the result of device `d`. -/
def oPts (d : Dev nD) (p : Dev nD) (f : Buf (Elt F) ((d : Thread nD τ).loc cc0_stg1_0)) : sProp 𝕄 :=
  ((d : Thread nD τ).loc cc0_stg1_0) ↦[(rows (n := 4096) (b := 512) 1024 p.val)]{fullShare} f

omit [FloatOps F] in
instance aPts_storable (d p : Dev nD) (q) (f) : BI.Storable (upEmb : UEmb _ 𝕄) (aPts (F := F) d p q f) := by unfold aPts; infer_instance
omit [FloatOps F] in
instance rPts_storable (d p : Dev nD) (f) : BI.Storable (upEmb : UEmb _ 𝕄) (rPts (F := F) d p f) := by unfold rPts; infer_instance
omit [FloatOps F] in
instance qPts_storable (d p : Dev nD) (f) : BI.Storable (upEmb : UEmb _ 𝕄) (qPts (F := F) d p f) := by unfold qPts; infer_instance

/-- The four shares of a tile: device `c` keeps its own, and lends one to each transfer. -/
def sh (p : Dev nD) : PosShare TreeShare :=
  ![fullShare.left.left, fullShare.left.right, fullShare.right.left, fullShare.right.right] p

/-! ## Contents -/

/-- Device `c`'s rows of `x`. -/
def X (c : Dev nD) : (cc0_stg0_0 : Ref sig .tc).ty.Contents (Elt F) :=
  (win0_0.blk (0 : Fin 1)).view.read (Elt F) (m ((c : Thread nD τ).loc main_arg0))
/-- Columns `[512 j, 512 (j + 1))` of device `c`'s `w`. -/
def wv (c : Dev nD) (j : Fin 4) : Vec F S1x4096x512 .f32 := fun k =>
  (m ((c : Thread nD τ).loc main_arg1) : (⟨2, ![4096, 2048]⟩ : Shape).Idx → F .f32)
    (ix2 ⟨(k 1).val, (k 1).isLt⟩ ⟨512 * j.val + (k 2).val, by have : (k 2).val < 512 := (k 2).isLt; omega⟩)
/-- Block `j` of device `c`'s product, cut off at zero. -/
def yv (c : Dev nD) (j : Fin 4) : Vec F S1x1024x512 .f32 := k0_pay2 (X m c) (wv m c j)
/-- Device `c`'s amax tile. -/
def amv (c : Dev nD) : Vec F S1x8x128 .f32 :=
  k0_pay13 (k0_pay12 (k0_pay6 (k0_pay3 (X m c) (wv m c 0)) (X m c) (wv m c 1)) (k0_pay7 (X m c)) (wv m c 2) (X m c) (wv m c 3))
/-- The four tiles. -/
def AM : (cc0_scratch4 : Ref sig .tc).ty.Contents (Elt F) := stack (n := 4) (a := 8) (b := 128) (amv m)
/-- The four tiles as the kernel folds them. -/
def tiles : FVec F S1x4x8x128 .f32 := k0_pay14 (AM m)
/-- Block `j` of device `d`'s quantised product. -/
def qv (d : Dev nD) (j : Dev nD) : Vec F S1x1024x512 .fp8e4m3 := k0_pay18 (tiles m) (yv m d j)
/-- Rows `[1024 s, 1024 (s + 1))` of device `c`'s result. -/
def ov (c : Dev nD) (s : Dev nD) : Vec F S1024x512 .f32 := k0_pay22 (k0_pay16 (tiles m)) (qv m s c)

def WB (c : Dev nD) (j : Fin 4) : (cc0_scratch0 : Ref sig .tc).ty.Contents (Elt F) := stack (n := 2) (a := 4096) (b := 512) fun _ => wv m c j
def YB (c : Dev nD) : (cc0_scratch1 : Ref sig .tc).ty.Contents (Elt F) := stack (n := 4) (a := 1024) (b := 512) (yv m c)
def QB (c : Dev nD) : (cc0_scratch2 : Ref sig .tc).ty.Contents (Elt F) := stack (n := 4) (a := 1024) (b := 512) (qv m c)
def RB (c : Dev nD) : (cc0_scratch3 : Ref sig .tc).ty.Contents (Elt F) := stack (n := 4) (a := 1024) (b := 512) fun s => qv m s c
def outAt (c : Dev nD) : (cc0_stg1_0 : Ref sig .tc).ty.Contents (Elt F) :=
  pile (n := 4096) (k := 1024) (b := 512) (m := 4) (by decide) (by decide) (ov m c)

/-! ## Semaphores -/

/-- The runtime's barrier semaphore. -/
abbrev barS : Sem sig := (SemArray.scalar (sig.barrier 0 rfl) : Sems sig S_).sem
/-- Semaphore `p` of kind `k`: 0 a block's send, 1 its receipt, 2 a tile's send, 3 its receipt. -/
def dq (k p : Fin 4) : DmaSem sig := ⟨4 * (k.val + 1) + p.val, by show _ < 20; omega⟩

abbrev barCell (c : Dev nD) : GSem nD τ sig := ((c : Thread nD τ), .reg barS)
abbrev xCell (k : Fin 4) (c : Dev nD) (p : Dev nD) : GSem nD τ sig := ((c : Thread nD τ), .dma (dq k p))

/-- A device's semaphores of the exchange: the barrier, and the sixteen. -/
abbrev Ix17 : Type := Option (Fin 4 × Fin 4)
abbrev csem : Ix17 → SemLoc sig
  | none => .reg barS
  | some (k, p) => .dma (dq k p)
abbrev kcell (x : Dev nD × Ix17) : GSem nD τ sig := ((x.1 : Thread nD τ), csem x.2)

theorem dq_div (k p : Fin 4) : (dq k p).val / 4 = k.val + 1 := by unfold dq; simp only; omega
theorem dq_mod (k p : Fin 4) : (dq k p).val % 4 = p.val := by unfold dq; simp only; omega
theorem dq_inj {k p k' p' : Fin 4} (h : dq k p = dq k' p') : k = k' ∧ p = p' := by
  have h1 : (dq k p).val = (dq k' p').val := congrArg Fin.val h
  have a := dq_div k p; have b := dq_mod k p; have a' := dq_div k' p'; have b' := dq_mod k' p'
  exact ⟨Fin.ext (by omega), Fin.ext (by omega)⟩

/-- What a tile's landing and a block's landing add to a semaphore. -/
def NA : ℕ := (cc0_scratch4 : Ref sig .tc).dmaCredit S8x128 .f32
def ND : ℕ := (cc0_scratch3 : Ref sig .tc).dmaCredit S1024x512 .fp8e4m3
def NW : ℕ := (cc0_scratch0 : Ref sig .tc).dmaCredit S4096x512 .f32
theorem NA_pos : 0 < NA := by unfold NA; exact sig.dmaCredit_pos _ _ _ _ _ (by decide)
theorem ND_pos : 0 < ND := by unfold ND; exact sig.dmaCredit_pos _ _ _ _ _ (by decide)
theorem NW_pos : 0 < NW := by unfold NW; exact sig.dmaCredit_pos _ _ _ _ _ (by decide)

/-! ## The schedule -/

/-- What device `p`'s unit hands the barrier of device `d`: `p`'s slots for `d`. -/
def barPay (d p : Dev nD) : sProp 𝕄 := iprop((∃ f, aPts p d fullShare f) ∗ ∃ f, rPts p d f)

omit [FloatOps F] in
instance barPay_storable (d p : Dev nD) : BI.Storable (upEmb : UEmb _ 𝕄) (barPay (F := F) d p) := by unfold barPay; infer_instance

/-- What the landing on DMA semaphore `n` of device `d` hands it. -/
def xPay (d : Dev nD) (n : ℕ) : sProp 𝕄 :=
  if n / 4 = 1 then qPts d ⟨n % 4, Nat.mod_lt _ (by decide)⟩ (QB m d)
  else if n / 4 = 2 then rPts d ⟨n % 4, Nat.mod_lt _ (by decide)⟩ (RB m d)
  else if n / 4 = 3 then aPts d d (sh ⟨n % 4, Nat.mod_lt _ (by decide)⟩) (AM m)
  else aPts d ⟨n % 4, Nat.mod_lt _ (by decide)⟩ fullShare (AM m)

instance xPay_storable (d : Dev nD) (n : ℕ) : BI.Storable (upEmb : UEmb _ 𝕄) (xPay (F := F) m d n) := by
  unfold xPay; (repeat' split) <;> infer_instance

/-- One round: a barrier semaphore one unit from each peer; semaphore `p` of a kind, `p` a peer, one landing. -/
def rd : Rounds.Schedule (GSem nD τ sig) (Dev nD) 𝕄 where
  duties g r := if r = 0 ∧ g.1.2 = .tc then
      (match g.2 with
        | .reg _ => Finset.univ.erase g.1.1
        | .dma q => if 4 ≤ q.val ∧ q.val % 4 ≠ g.1.1.val then {⟨q.val % 4, Nat.mod_lt _ (by decide)⟩} else ∅)
    else ∅
  amount g _ _ := match g.2 with
    | .reg _ => 1
    | .dma q => if q.val / 4 ≤ 2 then ND else NA
  payload g _ d := match g.2 with
    | .reg _ => barPay g.1.1 d
    | .dma q => xPay m g.1.1 q.val
  amount_pos g _ _ _ := by
    split
    · exact Nat.one_pos
    · split
      · exact ND_pos
      · exact NA_pos

instance rd_payload_storable (g : GSem nD τ sig) (r : ℕ) (d : Dev nD) : BI.Storable (upEmb : UEmb _ 𝕄) ((rd (F := F) m).payload g r d) := by
  show BI.Storable upEmb (match g.2 with | .reg _ => barPay g.1.1 d | .dma q => xPay m g.1.1 q.val)
  split <;> infer_instance

section Sched
variable (c p : Dev nD) (k : Fin 4)

theorem duties_bar : (rd (F := F) m).duties (barCell c) 0 = Finset.univ.erase c := by dsimp only [rd]; exact if_pos ⟨rfl, rfl⟩
theorem duties_x (h : p ≠ c) : (rd (F := F) m).duties (xCell k c p) 0 = {p} := by
  dsimp only [rd]
  rw [if_pos ⟨rfl, rfl⟩, if_pos ⟨by have := dq_div k p; omega, by rw [dq_mod]; exact fun e => h (Fin.ext e)⟩]
  exact congrArg _ (Fin.ext (dq_mod k p))
theorem duties_own (r : ℕ) : (rd (F := F) m).duties (xCell k c c) r = ∅ := by
  dsimp only [rd]
  split
  · exact if_neg fun h => h.2 (dq_mod k c)
  · rfl
theorem duties_later (g : GSem nD τ sig) : ∀ r, 1 ≤ r → (rd (F := F) m).duties g r = ∅ :=
  fun r hr => by dsimp only [rd]; exact if_neg fun h => by omega

theorem amount_bar (d : Dev nD) : (rd (F := F) m).amount (barCell c) 0 d = 1 := rfl
/-- What a landing of kind `k` adds. -/
def NX (k : Fin 4) : ℕ := if k.val ≤ 1 then ND else NA
theorem amount_x (d : Dev nD) : (rd (F := F) m).amount (xCell k c p) 0 d = NX k := by
  dsimp only [rd]; unfold NX
  rw [dq_div]
  by_cases h : k.val ≤ 1
  · rw [if_pos h, if_pos (by omega)]
  · rw [if_neg h, if_neg (by omega)]

theorem expect_bar : (rd (F := F) m).expect (barCell c) 0 = 3 := by
  unfold Schedule.expect Schedule.amountOf
  rw [duties_bar, Finset.sum_congr rfl fun d _ => amount_bar m c d, Finset.sum_const, Finset.card_erase_of_mem (Finset.mem_univ _), smul_eq_mul]
  rfl
theorem expect_x (h : p ≠ c) : (rd (F := F) m).expect (xCell k c p) 0 = NX k := by
  unfold Schedule.expect Schedule.amountOf; rw [duties_x m c p k h, Finset.sum_singleton, amount_x]

theorem payload_bar (d : Dev nD) : (rd (F := F) m).payload (barCell c) 0 d = barPay c d := rfl

/-- What a landing of kind `k` on semaphore `p` hands device `c`. -/
def xHand (c p : Dev nD) : Fin 4 → sProp 𝕄
  | 0 => qPts c p (QB m c)
  | 1 => rPts c p (RB m c)
  | 2 => aPts c c (sh p) (AM m)
  | 3 => aPts c p fullShare (AM m)

theorem payload_x (d : Dev nD) : (rd (F := F) m).payload (xCell k c p) 0 d = xHand m c p k := by
  show xPay m c (dq k p).val = xHand m c p k
  have e : (⟨(dq k p).val % 4, Nat.mod_lt _ (by decide)⟩ : Dev nD) = p := Fin.ext (dq_mod k p)
  unfold xPay
  rw [e, dq_div]
  match k with
  | 0 => rfl
  | 1 => rfl
  | 2 => rfl
  | 3 => rfl

/-- The rest of the barrier's round: every peer's slots. -/
theorem rest_bar : bigSep ((rd (F := F) m).duties (barCell c) 0 \ ∅) (fun d => (rd (F := F) m).payload (barCell c) 0 d)
    = bigSep (Finset.univ.erase c) fun p => barPay c p := by
  rw [Finset.sdiff_empty, duties_bar]; rfl
theorem rest_x (h : p ≠ c) : bigSep ((rd (F := F) m).duties (xCell k c p) 0 \ ∅) (fun d => (rd (F := F) m).payload (xCell k c p) 0 d)
    = xHand m c p k := by
  rw [Finset.sdiff_empty, duties_x m c p k h, bigSep_singleton, payload_x]

end Sched

/-! ## What a device owes, in the order it pays; the levels -/

/-- Payment `i` of device `c`: 0 to 3 the barriers' units, 4 to 7 the tiles, 8 to 11 the blocks. -/
def pay (c : Dev nD) (i : ℕ) : CellTallies nD τ sig Unit :=
  let p : Dev nD := ⟨i % 4, Nat.mod_lt _ (by decide)⟩
  if p = c then 0
  else if i < 4 then tallyAt (barCell p) () 1
  else if i < 8 then tallyAt (xCell 3 p c) () NA
  else tallyAt (xCell 1 p c) () ND

/-- What is still to be paid before payment `k`. -/
def due (c : Dev nD) (k : ℕ) : CellTallies nD τ sig Unit := ∑ i ∈ Finset.Ico k 12, pay c i

theorem due_step (c : Dev nD) (k : ℕ) (h : k < 12) : due c k = due c (k + 1) + pay c k := by
  have e : Finset.Ico k 12 = insert k (Finset.Ico (k + 1) 12) := by
    ext i; rw [Finset.mem_insert, Finset.mem_Ico, Finset.mem_Ico]; omega
  unfold due
  rw [e, Finset.sum_insert (by rw [Finset.mem_Ico]; omega), add_comm]
theorem due_end (c : Dev nD) : due c 12 = 0 := by unfold due; rw [Finset.Ico_self, Finset.sum_empty]

theorem pay_self (c : Dev nD) (i : ℕ) (h : i % 4 = c.val) : pay c i = 0 := if_pos (Fin.ext h)
theorem pay_bar (c p : Dev nD) (h : p ≠ c) : pay c p.val = tallyAt (barCell p) () 1 := by
  have e : (⟨p.val % 4, Nat.mod_lt _ (by decide)⟩ : Dev nD) = p := Fin.ext (Nat.mod_eq_of_lt p.isLt)
  unfold pay; simp only
  rw [e, if_neg h, if_pos p.isLt]
theorem pay_tile (c p : Dev nD) (h : p ≠ c) : pay c (4 + p.val) = tallyAt (xCell 3 p c) () NA := by
  have hp : p.val < 4 := p.isLt
  have e : (⟨(4 + p.val) % 4, Nat.mod_lt _ (by decide)⟩ : Dev nD) = p := Fin.ext (by simp only; omega)
  unfold pay; simp only
  rw [e, if_neg h, if_neg (by omega), if_pos (by omega)]
theorem pay_block (c p : Dev nD) (h : p ≠ c) : pay c (8 + p.val) = tallyAt (xCell 1 p c) () ND := by
  have hp : p.val < 4 := p.isLt
  have e : (⟨(8 + p.val) % 4, Nat.mod_lt _ (by decide)⟩ : Dev nD) = p := Fin.ext (by simp only; omega)
  unfold pay; simp only
  rw [e, if_neg h, if_neg (by omega), if_neg (by omega)]

def L (g : GSem nD τ sig) : Finset Unit := if g.1.2 = .tc then {()} else ∅
/-- Barriers at 1, a tile's receipt at 2, a block's receipt at 3, everything else at 0. -/
def lv (g : GSem nD τ sig) (_ : Unit) : ℕ := match g.2 with
  | .reg _ => 1
  | .dma q => if q.val / 4 = 4 then 2 else if q.val / 4 = 2 then 3 else 0

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u : Unit} {n : ℕ} (h : 0 < tallyAt (Ix := Unit) g () n g' u) : g' = g := by
  rw [tallyAt_apply] at h
  by_contra hn
  rw [if_neg fun h' => hn h'.1] at h
  exact Nat.lt_irrefl 0 h

/-- A payment's semaphore is of its third's level. -/
theorem pay_pos {c : Dev nD} {i : ℕ} (hi : i < 12) {g : GSem nD τ sig} {u : Unit} (h : 0 < pay c i g u) :
    u ∈ L g ∧ i / 4 + 1 ≤ lv g u := by
  unfold pay at h
  split at h
  · exact absurd h (Nat.lt_irrefl 0)
  · split at h
    · rw [tally_pos h]; exact ⟨Finset.mem_singleton_self _, by dsimp only [lv]; omega⟩
    · split at h
      · rw [tally_pos h]; exact ⟨Finset.mem_singleton_self _, by dsimp only [lv]; rw [dq_div, if_pos (by decide)]; omega⟩
      · rw [tally_pos h]
        exact ⟨Finset.mem_singleton_self _, by dsimp only [lv]; rw [dq_div, if_neg (by decide), if_pos (by decide)]; omega⟩

theorem due_pos {c : Dev nD} {k : ℕ} {g : GSem nD τ sig} {u : Unit} (h : 0 < due c k g u) : u ∈ L g ∧ k / 4 + 1 ≤ lv g u := by
  unfold due at h
  rw [Finset.sum_apply, Finsupp.finset_sum_apply] at h
  obtain ⟨i, hi, hp⟩ := Finset.exists_ne_zero_of_sum_ne_zero h.ne'
  rw [Finset.mem_Ico] at hi
  obtain ⟨h1, h2⟩ := pay_pos hi.2 (Nat.pos_of_ne_zero hp)
  exact ⟨h1, le_trans (by omega) h2⟩

/-- A device may wait on a semaphore whose level is below those of all it still owes. -/
theorem mayWait (c : Dev nD) (k : ℕ) (sm : SemLoc sig) (h : lv ((c : Thread nD τ), sm) () ≤ k / 4) :
    (levAts L lv : sProp 𝕄) ⊢ MayWait (c : Thread nD τ) sm () (due c k) :=
  MayOwe.of_cut (L := L) (lev := lv) (k / 4) (fun p hp => by rw [Finset.mem_singleton.mp hp, L_tc]; exact Finset.mem_singleton_self _)
    (fun g u hg => (due_pos hg).1)
    (fun p hp => by rw [Finset.mem_singleton.mp hp]; exact h)
    (fun g u hg => Nat.lt_of_lt_of_le (Nat.lt_succ_self _) (due_pos hg).2)

theorem lv_x (c p : Dev nD) (k : Fin 4) : lv (xCell k c p) () = if k = 3 then 2 else if k = 1 then 3 else 0 := by
  dsimp only [lv]; rw [dq_div]
  match k with
  | 0 => rfl
  | 1 => rfl
  | 2 => rfl
  | 3 => rfl

/-! ## The records every device reads: the invariants, and that round 0 is open everywhere -/

def records (K : Dev nD × Ix17 → ℕ) : sProp 𝕄 :=
  bigSep Finset.univ fun x : Dev nD × Ix17 => iprop(cellInv ER (rd m) (K x) (kcell x) ∗ reached ER (kcell x) 0)

instance records_persistent (K : Dev nD × Ix17 → ℕ) : BI.Persistent (records (F := F) m K) := by unfold records; infer_instance

theorem inv_at (K : Dev nD × Ix17 → ℕ) (x : Dev nD × Ix17) : records (F := F) m K ⊢ cellInv ER (rd m) (K x) (kcell x) := by
  unfold records
  rw [bigSep_sep']
  iintro ⟨H, -⟩
  iapply (show (bigSep Finset.univ fun x : Dev nD × Ix17 => (cellInv ER (rd m) (K x) (kcell x) : sProp 𝕄)) ⊢ cellInv ER (rd m) (K x) (kcell x)
    from bigSep_elim (Finset.mem_univ x)) $$ H
theorem reached_at (K : Dev nD × Ix17 → ℕ) (x : Dev nD × Ix17) : records (F := F) m K ⊢ reached ER (kcell x) 0 := by
  unfold records
  rw [bigSep_sep']
  iintro ⟨-, H⟩
  iapply (show (bigSep Finset.univ fun x : Dev nD × Ix17 => (reached ER (kcell x) 0 : sProp 𝕄)) ⊢ reached ER (kcell x) 0
    from bigSep_elim (Finset.mem_univ x)) $$ H

/-- A resource held for each peer. -/
def peer (c p : Dev nD) (R : sProp 𝕄) : sProp 𝕄 := if p = c then iprop(emp) else R
omit [FloatOps F] in
theorem peer_self (c : Dev nD) (R : sProp 𝕄) : peer c c R = iprop(emp) := if_pos rfl
omit [FloatOps F] in
theorem peer_ne {c p : Dev nD} (h : p ≠ c) (R : sProp 𝕄) : peer c p R = R := if_neg h

end Cert.Proof

end
-- ==== Proof.Steps.lean ====
/-
The steps of the body, each once, at a device `c` and a peer `p` kept as variables.

The kernel writes every step of the exchange four times, for the four values of `p`, each under the guard `p ≠ c`. Here a
step is one statement about the guarded piece of program: what it takes, what it gives back, and that for `p = c`, where
the piece is skipped, the device keeps what it has.
-/
module

public import proofs.«01_k».proof.Proof.Schedule

@[expose] public section

noncomputable section

namespace Cert.Proof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

abbrev 𝒱₀ : Variants := Variants.none

/-- The proposition that `p`, run on device `c`, is safe and ends in `Q`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ)

/-- Device `c` still owes the payments from number `k` on. -/
def owing (c : Dev nD) (k : ℕ) : sProp 𝕄 := iprop(∃ W, owes (c : Thread nD τ) (due c k) W)

/-- A payment to oneself is none. -/
theorem owing_skip (c : Dev nD) (k : ℕ) (h : k < 12) (hk : k % 4 = c.val) : (owing c k : sProp 𝕄) = owing c (k + 1) := by
  unfold owing
  rw [due_step c k h, pay_self c k hk, add_zero]

/-! ## Slots of the buffers -/

section Slots
variable (p : ℕ)

theorem aSl_set {o : Fin 3 → ℕ} (ho : o = ![p, 0, 0]) (h) (hr) (hq) :
    ((aM.slice (Rect.unit (s := S4x8x128) o S1x8x128.size h) hr).squeeze S8x128 hq).view.set = lead p := by
  show (((View.whole cc0_scratch4).slice _).reshape S8x128 _).set = _
  rw [View.set_reshape, View.set_slice_whole]; exact rect_lead ho h
theorem rSl_set {o : Fin 3 → ℕ} (ho : o = ![p, 0, 0]) (h) (hr) (hq) :
    ((rM.slice (Rect.unit (s := S4x1024x512) o S1x1024x512.size h) hr).squeeze S1024x512 hq).view.set = lead p := by
  show (((View.whole cc0_scratch3).slice _).reshape S1024x512 _).set = _
  rw [View.set_reshape, View.set_slice_whole]; exact rect_lead ho h
theorem qSl_set {o : Fin 3 → ℕ} (ho : o = ![p, 0, 0]) (h) (hr) (hq) :
    ((qM.slice (Rect.unit (s := S4x1024x512) o S1x1024x512.size h) hr).squeeze S1024x512 hq).view.set = lead p := by
  show (((View.whole cc0_scratch2).slice _).reshape S1024x512 _).set = _
  rw [View.set_reshape, View.set_slice_whole]; exact rect_lead ho h
theorem bSl_set {o : Fin 3 → ℕ} (ho : o = ![p, 0, 0]) (h) (hr) (hq) :
    ((bM.slice (Rect.unit (s := S2x4096x512) o S1x4096x512.size h) hr).squeeze S4096x512 hq).view.set = lead p := by
  show (((View.whole cc0_scratch0).slice _).reshape S4096x512 _).set = _
  rw [View.set_reshape, View.set_slice_whole]; exact rect_lead ho h

theorem aAcc_set {o : Fin 3 → ℕ} (ho : o = ![p, 0, 0]) (h) : (aM.access (Rect.unit (s := S4x8x128) o S1x8x128.size h)).set = lead p := by
  show ((View.whole cc0_scratch4).slice _).set = _
  rw [View.set_slice_whole]; exact rect_lead ho h
theorem rAcc_set {o : Fin 3 → ℕ} (ho : o = ![p, 0, 0]) (h) : (rM.access (Rect.unit (s := S4x1024x512) o S1x1024x512.size h)).set = lead p := by
  show ((View.whole cc0_scratch3).slice _).set = _
  rw [View.set_slice_whole]; exact rect_lead ho h
theorem qAcc_set {o : Fin 3 → ℕ} (ho : o = ![p, 0, 0]) (h) : (qM.access (Rect.unit (s := S4x1024x512) o S1x1024x512.size h)).set = lead p := by
  show ((View.whole cc0_scratch2).slice _).set = _
  rw [View.set_slice_whole]; exact rect_lead ho h
theorem yAcc_set {o : Fin 3 → ℕ} (ho : o = ![p, 0, 0]) (h) : (yM.access (Rect.unit (s := S4x1024x512) o S1x1024x512.size h)).set = lead p := by
  show ((View.whole cc0_scratch1).slice _).set = _
  rw [View.set_slice_whole]; exact rect_lead ho h
theorem bAcc_set {o : Fin 3 → ℕ} (ho : o = ![p, 0, 0]) (h) : (bM.access (Rect.unit (s := S2x4096x512) o S1x4096x512.size h)).set = lead p := by
  show ((View.whole cc0_scratch0).slice _).set = _
  rw [View.set_slice_whole]; exact rect_lead ho h
theorem oAcc_set {o : Fin 2 → ℕ} (ho : o = ![1024 * p, 0]) (h) : (oM.access (Rect.unit (s := S4096x512) o S1024x512.size h)).set = rows 1024 p := by
  show ((View.whole cc0_stg1_0).slice _).set = _
  rw [View.set_slice_whole]; exact rect_rows ho h
end Slots

/-! ## The semaphores the program names -/

/-- One semaphore of a row of them. -/
theorem sem_row {n base len p : ℕ} (hb : base + (⟨1, ![len]⟩ : Shape).numel ≤ n) {o : Fin 1 → ℕ} (ho : o = ![p])
    (h : ∀ x, o x + (![1] : Fin 1 → ℕ) x ≤ (⟨1, ![len]⟩ : Shape).size x) (hq : (⟨1, ![1]⟩ : Shape).Squeezes S_) :
    ((((SemArray.consecutive base ⟨1, ![len]⟩ hb).slice (Rect.unit (s := ⟨1, ![len]⟩) o ![1] h)).squeeze S_ hq).sem).val = base + p := by
  subst ho
  show base + (Shape.rowMajor (⟨1, ![len]⟩ : Shape) _).val = base + p
  rw [Shape.rowMajor_val_one]
  refine congrArg (base + ·) ((ValueKit.rect_emb_unit_val _ _ _ _ _).trans ?_)
  have : ∀ j : (⟨1, ![1]⟩ : Shape).Idx, (![p] : Fin 1 → ℕ) 0 + (j 0).val = p := fun j => by
    have : (j 0).val < 1 := (j 0).isLt
    show p + (j 0).val = p; omega
  exact this _

theorem sem0 (p : Fin 4) {o : Fin 1 → ℕ} (ho : o = ![p.val]) (h) (hq) :
    ((cc0_scratch6.slice (Rect.unit (s := S4) o S1.size h)).squeeze S_ hq).sem = dq 0 p :=
  Fin.ext (sem_row hcc0_scratch6 ho h hq)
theorem sem1 (p : Fin 4) {o : Fin 1 → ℕ} (ho : o = ![p.val]) (h) (hq) :
    ((cc0_scratch7.slice (Rect.unit (s := S4) o S1.size h)).squeeze S_ hq).sem = dq 1 p :=
  Fin.ext (sem_row hcc0_scratch7 ho h hq)
theorem sem2 (p : Fin 4) {o : Fin 1 → ℕ} (ho : o = ![p.val]) (h) (hq) :
    ((cc0_scratch8.slice (Rect.unit (s := S4) o S1.size h)).squeeze S_ hq).sem = dq 2 p :=
  Fin.ext (sem_row hcc0_scratch8 ho h hq)
theorem sem3 (p : Fin 4) {o : Fin 1 → ℕ} (ho : o = ![p.val]) (h) (hq) :
    ((cc0_scratch9.slice (Rect.unit (s := S4) o S1.size h)).squeeze S_ hq).sem = dq 3 p :=
  Fin.ext (sem_row hcc0_scratch9 ho h hq)
/-- The semaphore of half `b` of the column blocks at hand. -/
def wq (b : Fin 2) : DmaSem sig := ⟨2 + b.val, by show _ < 20; omega⟩
theorem semw (b : Fin 2) {o : Fin 1 → ℕ} (ho : o = ![b.val]) (h) (hq) :
    ((cc0_scratch5.slice (Rect.unit (s := S2) o S1.size h)).squeeze S_ hq).sem = wq b :=
  Fin.ext (sem_row hcc0_scratch5 ho h hq)

/-! ## The barrier's signals -/

variable (K : Dev nD × Ix17 → ℕ)

/-- Device `c`'s unit to the barrier of `p`, with `c`'s slots for `p`. -/
theorem step_signal (c p : Dev nD) {cond : Prop} [Decidable cond] (hc : cond ↔ p ≠ c) {n : cond → Dev nD} (hn : ∀ h, n h = p)
    {β : Type} {J' : Prog (TpuEff nD τ sig (Elt F) Λ₀ .tc) β} {Q : β → sProp 𝕄} :
    iprop(records m K ∗ owing c p.val ∗ peer c p (dutyTok ER (barCell p) 0 c) ∗ (∃ f, aPts c p fullShare f) ∗ (∃ f, rPts c p f))
      ⊢ iprop(((owing c (p.val + 1) ∗ (if p = c then iprop((∃ f, aPts c c fullShare f) ∗ ∃ f, rPts c c f) else iprop(emp))) -∗ run c J' Q)
          -∗ run c (if h : cond then Prog.op (.semSignal ((n h : Dev nD) : Thread nD τ) barS 1) (fun _ => J') else J') Q) := by
  have hp : p.val < 4 := p.isLt
  by_cases h : p = c
  · subst h
    rw [dif_neg (fun h => hc.mp h rfl), if_pos rfl, owing_skip p p.val (by omega) (Nat.mod_eq_of_lt hp)]
    iintro ⟨-, HO, -, Ha, Hr⟩ Hk
    iapply Hk
    isplitl [HO]; · iexact HO
    isplitl [Ha] <;> iassumption
  · have h' : cond := hc.mpr h
    rw [dif_pos h', if_neg h, peer_ne h, hn h']
    unfold owing
    rw [due_step c p.val (by omega), pay_bar c p h]
    iintro ⟨#HR, ⟨%W, HO⟩, Ht, Ha, Hr⟩ Hk
    iapply (Rounds.wp_signal 𝒱₀ ER (rd m) (c : Thread nD τ) none (dst := (p : Thread nD τ)) (κ := K (p, none)) (d := c)
      (by rw [duties_bar]; exact Finset.mem_erase.mpr ⟨Ne.symm h, Finset.mem_univ _⟩) (amount_bar m p c) () (due c (p.val + 1)) rfl) $$ [HO Ht Ha Hr]
    · isplitr; · iapply (inv_at m K (p, none)) $$ HR
      isplitl [HO]; · iexact HO
      isplitl [Ht]; · iexact Ht
      isplitl [Ha Hr]
      · rw [payload_bar]; unfold barPay
        isplitl [Ha] <;> iassumption
      · iapply (reached_at m K (p, none)) $$ HR
    iintro HO
    iapply Hk
    isplitl [HO]
    · iexists W; iexact HO
    · iempintro

/-! ## Families over the four devices -/

omit [FloatOps F] in
theorem four (Φ : Dev nD → sProp 𝕄) : bigSep Finset.univ Φ = iprop(Φ 0 ∗ Φ 1 ∗ Φ 2 ∗ Φ 3) := by
  rw [bigSep_univ_eq_bigSepL [(0 : Dev nD), 1, 2, 3] (by decide) (by decide)]; rfl

omit [FloatOps F] in
/-- What is held for each peer, and something else for oneself. -/
theorem pick (c : Dev nD) (R S : Dev nD → sProp 𝕄) :
    bigSep Finset.univ (fun p => if p = c then R p else S p) = iprop(R c ∗ bigSep Finset.univ fun p => peer c p (S p)) := by
  have e : ∀ Φ : Dev nD → sProp 𝕄, bigSep Finset.univ Φ = iprop(Φ c ∗ bigSep (Finset.univ.erase c) Φ) := fun Φ => by
    rw [BI.bigSep_erase (Finset.mem_univ c)]; rfl
  rw [e, e fun p => peer c p (S p), if_pos rfl, peer_self]
  have h1 : bigSep (Finset.univ.erase c) (fun p => if p = c then R p else S p) = bigSep (Finset.univ.erase c) fun p => peer c p (S p) :=
    bigSep_congr fun p hp => by
      have h := (Finset.mem_erase.mp hp).1
      rw [if_neg h, peer_ne h]
  rw [h1]
  exact congrArg (fun T => iprop(R c ∗ T)) (equiv_iff.mp (BI.emp_sep (M := 𝕄))).symm

omit [FloatOps F] in
theorem peers (c : Dev nD) (S : Dev nD → sProp 𝕄) :
    bigSep (Finset.univ.erase c) S = bigSep Finset.univ fun p => peer c p (S p) := by
  have e : ∀ Φ : Dev nD → sProp 𝕄, bigSep Finset.univ Φ = iprop(Φ c ∗ bigSep (Finset.univ.erase c) Φ) := fun Φ => by
    rw [BI.bigSep_erase (Finset.mem_univ c)]; rfl
  rw [e fun p => peer c p (S p), peer_self]
  have h1 : bigSep (Finset.univ.erase c) S = bigSep (Finset.univ.erase c) fun p => peer c p (S p) :=
    bigSep_congr fun p hp => by rw [peer_ne (Finset.mem_erase.mp hp).1]
  rw [h1]
  exact (equiv_iff.mp (BI.emp_sep (M := 𝕄))).symm

/-! ## The barrier's wait -/

/-- Device `c` has all three units: its peers' slots for it are its to fill, and the barrier's count is zero again. -/
theorem step_barrier (c : Dev nD) {n : ℕ} (hn : n = 3) {β : Type} {k : PUnit → Prog (TpuEff nD τ sig (Elt F) Λ₀ .tc) β} {Q : β → sProp 𝕄} :
    iprop(records m K ∗ levAts L lv ∗ cred (tallyAt (barCell c) () 3) ∗ owing c 4 ∗ atPos ER (barCell c) 0 ∅ 0)
      ⊢ iprop(((semVal (barCell c) 0 ∗ owing c 4 ∗ bigSep Finset.univ fun p => peer c p (barPay c p)) -∗ run c (k ⟨⟩) Q)
          -∗ run c (Prog.op (.semWait barS n) k) Q) := by
  subst hn
  unfold owing
  iintro ⟨#HR, #Hlev, Hc, ⟨%W, HO⟩, Hat⟩ Hk
  iapply (Rounds.wp_wait_rest_token 𝒱₀ ER (rd m) (c : Thread nD τ) none (κ := K (c, none))
      (wpE_semWait_eq 𝒱₀ (c : Thread nD τ) none Set.univ) (Set.mem_univ _) () (O := due c 4) (W := W) (R := 0) (m := 0) (T := ∅)
      (by rw [expect_bar])) $$ [Hc HO Hat]
  · isplitr; · iapply (inv_at m K (c, none)) $$ HR
    isplitl [Hc]; · iexact Hc
    isplitl [HO]; · iexact HO
    isplitr; · iapply (mayWait c 4 (.reg barS) (le_refl 1)); iexact Hlev
    iexact Hat
  iintro ⟨HO, Hat, -, Hpay⟩
  ihave Hp := (Entails.of_eq ((rest_bar m c).trans (peers c _))) $$ Hpay
  imod (Rounds.cell_close ER (rd m) (Set.mem_univ (K (c, none))) (fun h => h) (R := 0 + 1) (duties_later m (barCell c))) $$ [Hat] with Hz
  · isplitr; · iapply (inv_at m K (c, none)) $$ HR
    iexact Hat
  iapply Hk
  isplitl [Hz]; · iexact Hz
  isplitl [HO]; · iexists _; iexact HO
  iexact Hp

/-! ## A wait for one landing, and the semaphore's count zero again -/

theorem wait_landing (c p : Dev nD) (k : Fin 4) (h : p ≠ c) (i : ℕ) (hl : lv (xCell k c p) () ≤ i / 4)
    {s : DmaSem sig} (hs : s = dq k p)
    {sp sp' : Space} {s₁ s₂ : Shape} {e₁ e₂ : EltTy} {src : Memref sig .tc sp' s₁ e₁} {dst : Memref sig .tc sp s₂ e₂}
    {hsrc : src.view.WordExact} {hdst : dst.view.WordExact} (hN : dst.view.dmaCredit = NX k)
    {β : Type} {J : Prog (TpuEff nD τ sig (Elt F) Λ₀ .tc) β} {Q : β → sProp 𝕄} :
    iprop(records m K ∗ levAts L lv ∗ cred (tallyAt (xCell k c p) () (NX k)) ∗ owing c i ∗ atPos ER (xCell k c p) 0 ∅ 0)
      ⊢ iprop(((semVal (xCell k c p) 0 ∗ owing c i ∗ xHand m c p k) -∗ run c J Q)
          -∗ run c (Prog.op (.waitDma2 s src dst hsrc hdst) fun _ => J) Q) := by
  subst hs
  unfold owing
  iintro ⟨#HR, #Hlev, Hc, ⟨%W, HO⟩, Hat⟩ Hk
  rw [← hN]
  iapply (Rounds.wp_wait_rest_token 𝒱₀ ER (rd m) (c : Thread nD τ) none (κ := K (c, some (k, p)))
      (wpE_waitDma2_eq 𝒱₀ (c : Thread nD τ) none Set.univ) (Set.mem_univ _) () (O := due c i) (W := W) (R := 0) (m := 0) (T := ∅)
      (by rw [expect_x m c p k h, Nat.zero_add, hN])) $$ [Hc HO Hat]
  · isplitr; · iapply (inv_at m K (c, some (k, p))) $$ HR
    isplitl [Hc]; · iexact Hc
    isplitl [HO]; · iexact HO
    isplitr; · iapply (mayWait c i (.dma (dq k p)) hl); iexact Hlev
    iexact Hat
  iintro ⟨HO, Hat, -, Hpay⟩
  ihave Hp := (Entails.of_eq (rest_x m c p k h)) $$ Hpay
  imod (Rounds.cell_close ER (rd m) (Set.mem_univ (K (c, some (k, p)))) (fun h => h) (R := 0 + 1) (duties_later m (xCell k c p))) $$ [Hat] with Hz
  · isplitr; · iapply (inv_at m K (c, some (k, p))) $$ HR
    iexact Hat
  iapply Hk
  isplitl [Hz]; · iexact Hz
  isplitl [HO]; · iexists _; iexact HO
  iexact Hp

/-- The semaphores of one's own number are used by no transfer. -/
theorem close_own (c : Dev nD) (k : Fin 4) :
    iprop(records (F := F) m K ∗ atPos ER (xCell k c c) 0 ∅ 0) ⊢ iprop(|={Set.univ}=> semVal (xCell k c c) 0) := by
  iintro ⟨#HR, Hat⟩
  iapply (Rounds.cell_close ER (rd m) (Set.mem_univ (K (c, some (k, c)))) (fun h => h) (R := 0) (fun r _ => duties_own m c k r))
  isplitr; · iapply (inv_at m K (c, some (k, c))) $$ HR
  iexact Hat

/-! ## A block's way to a peer -/

/-- Device `c` sends what it holds of `src` to `dst` on `p`: the send semaphore `p` of kind `ks` is to hand the source back, and
    the receive semaphore `c` of kind `kr` on `p` hands over the landing; payment `i` is done. -/
theorem send (c p : Dev nD) (h : p ≠ c) {n : Dev nD} (hn : n = p) (ks kr : Fin 4) (i : ℕ) (hi : i < 12) (hpay : pay c i = tallyAt (xCell kr p c) () (NX kr))
    {s₁ s₂ : DmaSem sig} (h₁ : s₁ = dq ks p) (h₂ : s₂ = dq kr c) {s : Shape} {e : EltTy} {src dst : Memref sig .tc .vmem s e}
    {hsc} {hsrc} {hdst} {hsem} {fs : Buf (Elt F) (src.view.loc (c : Thread nD τ))} {fd : Buf (Elt F) (dst.view.loc (p : Thread nD τ))}
    {q : PosShare TreeShare} (hN : dst.view.dmaCredit = NX kr) (hks : NX ks = NX kr)
    (hs : (src.view.loc (c : Thread nD τ) ↦[src.view.set]{q} fs : sProp 𝕄) = xHand m c p ks)
    (hd : (dst.view.loc (p : Thread nD τ) ↦[dst.view.set]{fullShare}
      dst.view.write (Elt F) fd (src.view.read (Elt F) fs) Finset.univ : sProp 𝕄) = xHand m p c kr)
    {β : Type} {J : Prog (TpuEff nD τ sig (Elt F) Λ₀ .tc) β} {Q : β → sProp 𝕄} :
    iprop(records m K ∗ (dst.view.loc (p : Thread nD τ) ↦[dst.view.set]{fullShare} fd) ∗ xHand m c p ks ∗ owing c i
        ∗ dutyTok ER (xCell ks c p) 0 p ∗ dutyTok ER (xCell kr p c) 0 c)
      ⊢ iprop(((cred (tallyAt (xCell ks c p) () (NX ks)) ∗ owing c (i + 1)) -∗ run c J Q)
          -∗ run c (Prog.op (.enqueueDma src (.remote (Dev.tc n : Thread nD τ) dst (.dma s₁) hsc) (.dma s₂) hsrc hdst hsem) fun _ => J) Q) := by
  subst hn h₁ h₂
  unfold owing
  rw [due_step c i hi, hpay, ← hs, hks]
  iintro ⟨#HR, Hd, Hs, ⟨%W, HO⟩, Ht1, Ht2⟩ Hk
  iapply (Rounds.wp_send_pointsTo 𝒱₀ ER (rd m) (c : Thread nD τ) none (κ₁ := K (c, some (ks, n))) (κ₂ := K (n, some (kr, c)))
    (r₁ := 0) (r₂ := 0) (d₁ := n) (d₂ := c) (fd := fd)
    (by rw [duties_x m c n ks h]; exact Finset.mem_singleton_self _) (by rw [duties_x m n c kr (Ne.symm h)]; exact Finset.mem_singleton_self _)
    () () (NX kr) (show dst.view.amount (.dma (dq kr c)) = NX kr from hN) (by rw [amount_x, hks]) (amount_x m n c kr c) (due c (i + 1)) rfl (W := W)
    (by rw [payload_x, ← hs]) (by rw [payload_x, ← hd])) $$ [Hs Hd HO Ht1 Ht2]
  · isplitr; · iapply (inv_at m K (c, some (ks, n))) $$ HR
    isplitr; · iapply (inv_at m K (n, some (kr, c))) $$ HR
    isplitl [Hs]; · iexact Hs
    isplitl [Hd]; · iexact Hd
    isplitl [HO]; · iexact HO
    isplitl [Ht1]; · iexact Ht1
    isplitr; · iapply (reached_at m K (c, some (ks, n))) $$ HR
    isplitl [Ht2]; · iexact Ht2
    iapply (reached_at m K (n, some (kr, c))) $$ HR
  iintro ⟨Hc, HO⟩
  iapply Hk
  isplitl [Hc]; · iexact Hc
  iexists W; iexact HO

/-! ## Reads and writes of a slot -/

section Access
variable (c : Dev nD) {sp : CoreSpace} {s : Shape} {e : EltTy} {β : Type}

/-- A load of elements that are held. -/
theorem get {M : Memref sig .tc sp s e} {r : Rect s} {S : Finset (Idx ((M.access r).loc (c : Thread nD τ)))} {q : PosShare TreeShare}
    {g : Buf (Elt F) ((M.access r).loc (c : Thread nD τ))} {w : r.shape.Idx → Elt F e} {Q : β → sProp 𝕄}
    (hS : (M.access r).set = S) (hg : (M.access r).read (Elt F) g = w) {hl : M.view.LoadsAt r.toLoadRect}
    {k : (r.shape.Idx → Elt F e) → Prog (TpuEff nD τ sig (Elt F) Λ₀ .tc) β} :
    ((M.access r).loc (c : Thread nD τ) ↦[S]{q} g : sProp 𝕄)
      ⊢ iprop((((M.access r).loc (c : Thread nD τ) ↦[S]{q} g) -∗ run c (k w) Q) -∗ run c (Prog.op (.load M r.toLoadRect hl) k) Q) := by
  subst hg
  exact wp_load_rect 𝒱₀ (c : Thread nD τ) none Set.univ hS.subset

/-- A load whose result is not used, and a store to the same place. -/
theorem put {M : Memref sig .tc sp s e} {r : Rect s} {S : Finset (Idx ((M.access r).loc (c : Thread nD τ)))}
    {g : Buf (Elt F) ((M.access r).loc (c : Thread nD τ))} {w : r.shape.Idx → Elt F e} {Q : β → sProp 𝕄}
    (hS : (M.access r).set = S) (hg : (M.access r).read (Elt F) g = w) {hl : M.view.LoadsAt r.toLoadRect}
    {hx : (M.access r).Stores Finset.univ} {hm} {J : Prog (TpuEff nD τ sig (Elt F) Λ₀ .tc) β} :
    (iprop(∃ f, (M.access r).loc (c : Thread nD τ) ↦[S]{fullShare} f) : sProp 𝕄)
      ⊢ iprop((((M.access r).loc (c : Thread nD τ) ↦[S]{fullShare} g) -∗ run c J Q)
        -∗ run c (Prog.op (.load M r.toLoadRect hl) fun _ => Prog.op (.store M r w Finset.univ hx hm) fun _ => J) Q) := by
  subst hS
  iintro ⟨%f, H⟩ Hk
  iapply (wp_load_rect 𝒱₀ (c : Thread nD τ) none Set.univ (m := M) (r := r) (Finset.Subset.refl _)) $$ H
  iintro H
  iapply (wp_store 𝒱₀ (c : Thread nD τ) none Set.univ (m := M) (r := r) (Mk := Finset.univ) (S := (M.access r).set) (Finset.Subset.refl _)) $$ H
  iintro H
  iapply Hk
  iapply (Entails.of_eq (pointsTo_congr (write_agrees (Val := Elt F) (M.access r) f g w hg))) $$ H

end Access

end Cert.Proof

end
-- ==== Proof.Moves.lean ====
module

public import proofs.«01_k».proof.Proof.Steps

/-!
What the slots of the buffers read, and the copies of the columns of `w`.
-/

@[expose] public section

noncomputable section

namespace Cert.Proof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)
variable (K : Dev nD × Ix17 → ℕ)

/-! ## What the slots read -/

section Reads
variable {e : EltTy}

theorem b_read (p : Fin 2) (w : Fin 2 → Vec F S1x4096x512 .f32) {o : Fin 3 → ℕ} (ho : o = ![p.val, 0, 0]) (h) :
    (bM.access (Rect.unit (s := S2x4096x512) o S1x4096x512.size h)).read (Elt F) (stack w) = w p :=
  funext fun k => stack_emb w p ho h k
theorem y_read (p : Fin 4) (w : Fin 4 → Vec F S1x1024x512 .f32) {o : Fin 3 → ℕ} (ho : o = ![p.val, 0, 0]) (h) :
    (yM.access (Rect.unit (s := S4x1024x512) o S1x1024x512.size h)).read (Elt F) (stack w) = w p :=
  funext fun k => stack_emb w p ho h k
theorem q_read (p : Fin 4) (w : Fin 4 → Vec F S1x1024x512 .fp8e4m3) {o : Fin 3 → ℕ} (ho : o = ![p.val, 0, 0]) (h) :
    (qM.access (Rect.unit (s := S4x1024x512) o S1x1024x512.size h)).read (Elt F) (stack w) = w p :=
  funext fun k => stack_emb w p ho h k
theorem r_read (p : Fin 4) (w : Fin 4 → Vec F S1x1024x512 .fp8e4m3) {o : Fin 3 → ℕ} (ho : o = ![p.val, 0, 0]) (h) :
    (rM.access (Rect.unit (s := S4x1024x512) o S1x1024x512.size h)).read (Elt F) (stack w) = w p :=
  funext fun k => stack_emb w p ho h k
theorem a_read (p : Fin 4) (w : Fin 4 → Vec F S1x8x128 .f32) {o : Fin 3 → ℕ} (ho : o = ![p.val, 0, 0]) (h) :
    (aM.access (Rect.unit (s := S4x8x128) o S1x8x128.size h)).read (Elt F) (stack w) = w p :=
  funext fun k => stack_emb w p ho h k
theorem o_read (p : Fin 4) (w : Fin 4 → Vec F S1024x512 .f32) {o : Fin 2 → ℕ} (ho : o = ![1024 * p.val, 0]) (h) :
    (oM.access (Rect.unit (s := S4096x512) o S1024x512.size h)).read (Elt F)
      (pile (n := 4096) (k := 1024) (b := 512) (m := 4) (by decide) (by decide) w) = w p :=
  funext fun k => pile_emb (by decide) (by decide) w p ho h k

/-- A block as a matrix. -/
def flat {a b : ℕ} {α : Type} (w : (⟨3, ![1, a, b]⟩ : Shape).Idx → α) : (⟨2, ![a, b]⟩ : Shape).Idx → α :=
  fun k => w (ix3 (⟨0, Nat.one_pos⟩ : Fin 1) (k 0) (k 1))

/-- An index of a matrix, matched with the block's. -/
theorem flat_reshape {a b : ℕ} {α : Type} (w : (⟨3, ![1, a, b]⟩ : Shape).Idx → α)
    (h : (⟨2, ![a, b]⟩ : Shape).numel = (⟨3, ![1, a, b]⟩ : Shape).numel) : (fun k => w (Shape.reshapeEquiv h k)) = flat w := by
  funext k
  have e : k = ix2 (k 0) (k 1) := by funext x; match x with | ⟨0, _⟩ => rfl | ⟨1, _⟩ => rfl
  unfold flat
  rw [e]
  exact congrArg w (reshapeEquiv_ix2_1ab h (k 0) (k 1))

theorem bSl_read (p : Fin 2) (w : Fin 2 → Vec F S1x4096x512 .f32) {o : Fin 3 → ℕ} (ho : o = ![p.val, 0, 0]) (h) (hr) (hq) :
    ((bM.slice (Rect.unit (s := S2x4096x512) o S1x4096x512.size h) hr).squeeze S4096x512 hq).view.read (Elt F) (stack w) = flat (w p) :=
  (flat_reshape ((bM.access (Rect.unit (s := S2x4096x512) o S1x4096x512.size h)).read (Elt F) (stack w)) _).trans
    (congrArg flat (b_read p w ho h))
theorem qSl_read (p : Fin 4) (w : Fin 4 → Vec F S1x1024x512 .fp8e4m3) {o : Fin 3 → ℕ} (ho : o = ![p.val, 0, 0]) (h) (hr) (hq) :
    ((qM.slice (Rect.unit (s := S4x1024x512) o S1x1024x512.size h) hr).squeeze S1024x512 hq).view.read (Elt F) (stack w) = flat (w p) :=
  (flat_reshape ((qM.access (Rect.unit (s := S4x1024x512) o S1x1024x512.size h)).read (Elt F) (stack w)) _).trans
    (congrArg flat (q_read p w ho h))
theorem rSl_read (p : Fin 4) (w : Fin 4 → Vec F S1x1024x512 .fp8e4m3) {o : Fin 3 → ℕ} (ho : o = ![p.val, 0, 0]) (h) (hr) (hq) :
    ((rM.slice (Rect.unit (s := S4x1024x512) o S1x1024x512.size h) hr).squeeze S1024x512 hq).view.read (Elt F) (stack w) = flat (w p) :=
  (flat_reshape ((rM.access (Rect.unit (s := S4x1024x512) o S1x1024x512.size h)).read (Elt F) (stack w)) _).trans
    (congrArg flat (r_read p w ho h))

theorem w_read (c : Dev nD) (j : Fin 4) {o : Fin 2 → ℕ} (ho : o = ![0, 512 * j.val]) (h) (hr) :
    (wM.slice (Rect.unit (s := S4096x2048) o S4096x512.size h) hr).view.read (Elt F) (m ((c : Thread nD τ).loc main_arg1)) = flat (wv m c j) := by
  subst ho
  funext k
  show (m ((c : Thread nD τ).loc main_arg1) : (⟨2, ![4096, 2048]⟩ : Shape).Idx → F .f32)
    ((Rect.unit (s := S4096x2048) ![0, 512 * j.val] S4096x512.size h).emb k) = _
  unfold flat wv
  refine congrArg _ (funext fun x => Fin.ext ?_)
  match x with
  | ⟨0, _⟩ => exact (ValueKit.rect_emb_unit_val _ _ _ _ _).trans (Nat.zero_add _)
  | ⟨1, _⟩ => exact ValueKit.rect_emb_unit_val _ _ _ _ _

end Reads

/-! ## The copies of the columns -/

/-- Columns `[512 j, 512 (j + 1))` of device `c`'s `w`. -/
def wPts (c : Dev nD) (j : Fin 4) : sProp 𝕄 :=
  ((c : Thread nD τ).loc main_arg1) ↦[cols (n := 4096) (b := 2048) 512 j.val]{fullShare} (m ((c : Thread nD τ).loc main_arg1))

theorem wSl_set (j : ℕ) {o : Fin 2 → ℕ} (ho : o = ![0, 512 * j]) (h) (hr) :
    (wM.slice (Rect.unit (s := S4096x2048) o S4096x512.size h) hr).view.set = cols 512 j := by
  show ((View.whole main_arg1).slice _).set = _
  rw [View.set_slice_whole]; exact rect_cols (by decide) ho h

/-- Columns block `j` is on its way into half `b`. -/
def flying (c : Dev nD) (b : Fin 2) (j : Fin 4) : sProp 𝕄 :=
  Flight EC (c : Thread nD τ) (.dma (wq b)) () NW iprop(bPts c b (WB m c j) ∗ wPts m c j)

/-- The start of a copy. -/
theorem step_copy (c : Dev nD) (b : Fin 2) (j : Fin 4) {s : DmaSem sig} (hs : s = wq b) {o : Fin 2 → ℕ} (ho : o = ![0, 512 * j.val])
    {o' : Fin 3 → ℕ} (ho' : o' = ![b.val, 0, 0]) {h} {hr} {h'} {hr'} {hq} {hsrc} {hdst} {hsem}
    {β : Type} {J : Prog (TpuEff nD τ sig (Elt F) Λ₀ .tc) β} {Q : β → sProp 𝕄} :
    iprop((∃ f, bPts c b f) ∗ wPts m c j ∗ semVal ((c : Thread nD τ), .dma (wq b)) 0)
      ⊢ iprop((flying m c b j -∗ run c J Q)
          -∗ run c (Prog.op (.enqueueDma (wM.slice (Rect.unit (s := S4096x2048) o S4096x512.size h) hr)
            (.here ((bM.slice (Rect.unit (s := S2x4096x512) o' S1x4096x512.size h') hr').squeeze S4096x512 hq)) (.dma s) hsrc hdst hsem) fun _ => J) Q) := by
  subst hs
  have hset := bSl_set b.val ho' h' hr' hq
  have hwset := wSl_set j.val ho h hr
  iintro ⟨⟨%fd, Hb⟩, Hw, Hv⟩ Hk
  have hD : (iprop((((c : Thread nD τ).loc cc0_scratch0) ↦[lead (n := 2) b.val]{fullShare}
        ((bM.slice (Rect.unit (s := S2x4096x512) o' S1x4096x512.size h') hr').squeeze S4096x512 hq).view.write (Elt F) fd
          ((wM.slice (Rect.unit (s := S4096x2048) o S4096x512.size h) hr).view.read (Elt F) (m ((c : Thread nD τ).loc main_arg1))) Finset.univ)
      ∗ (((c : Thread nD τ).loc main_arg1) ↦[(wM.slice (Rect.unit (s := S4096x2048) o S4096x512.size h) hr).view.set]{fullShare}
        (m ((c : Thread nD τ).loc main_arg1)))) : sProp 𝕄) = iprop(bPts c b (WB m c j) ∗ wPts m c j) := by
    unfold bPts wPts
    rw [hwset, ← hset]
    refine congrArg (fun T => iprop(T ∗ _)) (pointsTo_congr (write_agrees (Val := Elt F)
      ((bM.slice (Rect.unit (s := S2x4096x512) o' S1x4096x512.size h') hr').squeeze S4096x512 hq).view fd (WB m c j) _ ?_))
    exact (bSl_read b _ ho' h' hr' hq).trans (w_read m c j ho h hr).symm
  unfold flying
  rw [← hD]
  iapply (Transfers.wp_dmaLocal EC 𝒱₀ (c : Thread nD τ) none () NW rfl NW_pos
      (dst := (bM.slice (Rect.unit (s := S2x4096x512) o' S1x4096x512.size h') hr').squeeze S4096x512 hq)
      (Sd := lead (n := 2) (a := 4096) (b := 512) b.val) hset.subset) $$ [Hb Hw Hv]
  · isplitl [Hw]; · unfold wPts; rw [hwset]; iexact Hw
    isplitl [Hb]; · unfold bPts; iexact Hb
    iexact Hv
  iexact Hk

/-- Its end. -/
theorem step_landed (c : Dev nD) (b : Fin 2) (j : Fin 4) (i : ℕ) {s : DmaSem sig} (hs : s = wq b)
    {o' : Fin 3 → ℕ} {h'} {hr'} {hq} {sp' : Space} {s₁ : Shape} {e₁ : EltTy} {src : Memref sig .tc sp' s₁ e₁} {hsrc} {hdst}
    {β : Type} {J : Prog (TpuEff nD τ sig (Elt F) Λ₀ .tc) β} {Q : β → sProp 𝕄} :
    iprop(levAts L lv ∗ flying m c b j ∗ owing c i)
      ⊢ iprop(((bPts c b (WB m c j) ∗ wPts m c j ∗ semVal ((c : Thread nD τ), .dma (wq b)) 0 ∗ owing c i) -∗ run c J Q)
          -∗ run c (Prog.op (.waitDma2 s src
            ((bM.slice (Rect.unit (s := S2x4096x512) o' S1x4096x512.size h') hr').squeeze S4096x512 hq) hsrc hdst) fun _ => J) Q) := by
  subst hs
  unfold owing flying
  iintro ⟨#Hlev, Hf, ⟨%W, HO⟩⟩ Hk
  iapply (Transfers.wp_waitLocalO EC 𝒱₀ (c : Thread nD τ) none () (N := NW) rfl (O := due c i) (W := W)) $$ [Hf HO]
  · isplitl [Hf]; · iexact Hf
    isplitl [HO]; · iexact HO
    iapply (mayWait c i (.dma (wq b)) (by show (if (wq b).val / 4 = 4 then 2 else if (wq b).val / 4 = 2 then 3 else 0) ≤ _; rw [if_neg, if_neg]; exacts [Nat.zero_le _, by unfold wq; simp only; omega, by unfold wq; simp only; omega])); iexact Hlev
  iintro ⟨⟨Hb, Hw⟩, Hv, HO⟩
  iapply Hk
  isplitl [Hb]; · iexact Hb
  isplitl [Hw]; · iexact Hw
  isplitl [Hv]; · iexact Hv
  iexists _; iexact HO

end Cert.Proof

end
-- ==== Proof.Exchange.lean ====
module

public import proofs.«01_k».proof.Proof.Moves

/-!
The steps of the exchange of tiles and blocks, each under its guard.
-/

@[expose] public section

noncomputable section

namespace Cert.Proof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)
variable (K : Dev nD × Ix17 → ℕ)

/-! ## The slots as matrices, as the transfers name them -/

abbrev aSl (o : Fin 3 → ℕ) (h : ∀ a, o a + S1x8x128.size a ≤ S4x8x128.size a) : Memref sig .tc .vmem S8x128 .f32 :=
  (aM.slice (Rect.unit (s := S4x8x128) o S1x8x128.size h) (fun _ => rfl)).squeeze S8x128 squeezes_S1x8x128_S8x128
abbrev qSl (o : Fin 3 → ℕ) (h : ∀ a, o a + S1x1024x512.size a ≤ S4x1024x512.size a) : Memref sig .tc .vmem S1024x512 .fp8e4m3 :=
  (qM.slice (Rect.unit (s := S4x1024x512) o S1x1024x512.size h) (fun _ => rfl)).squeeze S1024x512 squeezes_S1x1024x512_S1024x512
abbrev rSl (o : Fin 3 → ℕ) (h : ∀ a, o a + S1x1024x512.size a ≤ S4x1024x512.size a) : Memref sig .tc .vmem S1024x512 .fp8e4m3 :=
  (rM.slice (Rect.unit (s := S4x1024x512) o S1x1024x512.size h) (fun _ => rfl)).squeeze S1024x512 squeezes_S1x1024x512_S1024x512

/-- A guarded piece of program, the guard open or shut. -/
theorem guarded {c p : Dev nD} {cond : Prop} [Decidable cond] (hc : cond ↔ p ≠ c) {α : Type}
    {A : cond → Prog (TpuEff nD τ sig (Elt F) Λ₀ .tc) α} {B : ¬cond → Prog (TpuEff nD τ sig (Elt F) Λ₀ .tc) α} {Q : α → sProp 𝕄} {R : sProp 𝕄}
    (hA : ∀ h, p ≠ c → (R ⊢ run c (A h) Q)) (hB : ∀ h, p = c → (R ⊢ run c (B h) Q)) : R ⊢ run c (dite cond A B) Q := by
  by_cases h : cond
  · rw [dif_pos h]; exact hA h (hc.mp h)
  · rw [dif_neg h]; exact hB h (by_contra fun e => h (hc.mpr e))

/-! ## The tiles -/

/-- Device `c`'s tile to slot `c` of its peer `p`. -/
theorem step_tile_send (c p : Dev nD) {cond : Prop} [Decidable cond] (hc : cond ↔ p ≠ c) {n : cond → Dev nD} (hn : ∀ h, n h = p)
    {s₁ s₂ : cond → DmaSem sig} (h₁ : ∀ h, s₁ h = dq 2 p) (h₂ : ∀ h, s₂ h = dq 3 c)
    {o : Fin 3 → ℕ} (ho : o = ![c.val, 0, 0])
    {hin : cond → ∀ a, o a + S1x8x128.size a ≤ S4x8x128.size a}
    {hip : cond → ∀ a, o a + S1x8x128.size a ≤ S4x8x128.size a}
    {hsrc : ∀ h, (aSl o (hin h)).view.WordExact} {hdst : ∀ h, (aSl o (hip h)).view.WordExact}
    {hsem : ∀ h, DmaTarget.Typed (nD := nD) .vmem (.dma (s₂ h)) (.remote (p := .tc) (Dev.tc (n h) : Thread nD τ) (aSl o (hip h)) (.dma (s₁ h)))}
    {β : Type} {J : Prog (TpuEff nD τ sig (Elt F) Λ₀ .tc) β} {Q : β → sProp 𝕄} :
    iprop(records m K ∗ peer c p iprop(∃ f, aPts p c fullShare f) ∗ aPts c c (sh p) (AM m) ∗ owing c (4 + p.val)
        ∗ peer c p iprop(dutyTok ER (xCell 2 c p) 0 p ∗ dutyTok ER (xCell 3 p c) 0 c))
      ⊢ iprop((((if p = c then aPts c c (sh p) (AM m) else cred (tallyAt (xCell 2 c p) () (NX 2))) ∗ owing c (4 + p.val + 1)) -∗ run c J Q)
          -∗ run c (dite cond
            (fun h => Prog.op (.enqueueDma (aSl o (hin h))
              (.remote (Dev.tc (n h) : Thread nD τ) (aSl o (hip h))
                (.dma (s₁ h))) (.dma (s₂ h)) (hsrc h) (hdst h) (hsem h)) fun _ => J) (fun _ => J)) Q) := by
  have hp : p.val < 4 := p.isLt
  refine BIClass.wand_intro (guarded hc (fun h hpc => ?_) fun h hpc => ?_)
  · rw [peer_ne hpc, peer_ne hpc, if_neg hpc]
    have hset := aSl_set c.val ho (hin h) (fun _ => rfl) squeezes_S1x8x128_S8x128
    have hset' := aSl_set c.val ho (hip h) (fun _ => rfl) squeezes_S1x8x128_S8x128
    iintro ⟨⟨#HR, ⟨%fd, Hd⟩, Hs, HO, Ht1, Ht2⟩, Hk⟩
    iapply (send m K c p hpc (hn h) 2 3 (4 + p.val) (by omega) (pay_tile c p hpc) (h₁ h) (h₂ h)
      (src := aSl o (hin h))
      (dst := aSl o (hip h))
      (fs := AM m) (fd := fd) (q := sh p) rfl rfl
      (by show _ = aPts c c (sh p) (AM m); unfold aPts; rw [← hset])
      (by
        show _ = aPts p c fullShare (AM m); unfold aPts; rw [← hset']
        exact pointsTo_congr (write_agrees (Val := Elt F)
          (aSl o (hip h)).view fd (AM m) _ rfl))) $$ [Hd Hs HO Ht1 Ht2]
    · isplitr; · iexact HR
      isplitl [Hd]; · unfold aPts; rw [← hset']; iexact Hd
      isplitl [Hs]; · unfold xHand; iexact Hs
      isplitl [HO]; · iexact HO
      isplitl [Ht1]; · iexact Ht1
      iexact Ht2
    iexact Hk
  · subst hpc
    rw [if_pos rfl, owing_skip p (4 + p.val) (by omega) (by omega)]
    iintro ⟨⟨#HR, -, Hs, HO, -⟩, Hk⟩
    iapply Hk
    isplitl [Hs]; · iexact Hs
    iexact HO

/-- The wait for one's tile to have left for `p`, and for `p`'s tile to have come. -/
theorem step_tile_wait (c p : Dev nD) {cond : Prop} [Decidable cond] (hc : cond ↔ p ≠ c)
    {s₁ s₂ : cond → DmaSem sig} (h₁ : ∀ h, s₁ h = dq 2 p) (h₂ : ∀ h, s₂ h = dq 3 p)
    {o o' : Fin 3 → ℕ}    {hin : cond → ∀ a, o a + S1x8x128.size a ≤ S4x8x128.size a}
    {hip : cond → ∀ a, o' a + S1x8x128.size a ≤ S4x8x128.size a}
    {src : cond → Memref sig .tc .vmem S8x128 .f32}
    {hsrc : ∀ h, (src h).view.WordExact} {hdst : ∀ h, (aSl o (hin h)).view.WordExact}
    {src' : cond → Memref sig .tc .vmem S8x128 .f32} {hsrc' : ∀ h, (src' h).view.WordExact} {hdst' : ∀ h, (aSl o' (hip h)).view.WordExact}
    {β : Type} {J : Prog (TpuEff nD τ sig (Elt F) Λ₀ .tc) β} {Q : β → sProp 𝕄} :
    iprop(records m K ∗ levAts L lv ∗ (if p = c then aPts c c (sh p) (AM m) else cred (tallyAt (xCell 2 c p) () (NX 2)))
        ∗ peer c p (cred (tallyAt (xCell 3 c p) () (NX 3))) ∗ owing c 8 ∗ atPos ER (xCell 2 c p) 0 ∅ 0 ∗ atPos ER (xCell 3 c p) 0 ∅ 0)
      ⊢ iprop(((semVal (xCell 2 c p) 0 ∗ semVal (xCell 3 c p) 0 ∗ aPts c c (sh p) (AM m) ∗ peer c p (aPts c p fullShare (AM m)) ∗ owing c 8) -∗ run c J Q)
          -∗ run c (dite cond
            (fun h => Prog.op (.waitDma2 (s₁ h) (src h)
              (aSl o (hin h)) (hsrc h) (hdst h)) fun _ =>
              Prog.op (.waitDma2 (s₂ h) (src' h)
              (aSl o' (hip h)) (hsrc' h) (hdst' h)) fun _ => J)
            (fun _ => J)) Q) := by
  refine BIClass.wand_intro (guarded hc (fun h hpc => ?_) fun h hpc => ?_)
  · rw [peer_ne hpc, peer_ne hpc, if_neg hpc]
    iintro ⟨⟨#HR, #Hlev, Hc, Hc', HO, Ha, Ha'⟩, Hk⟩
    iapply (wait_landing m K c p 2 hpc 8 (by rw [lv_x]; decide) (h₁ h) rfl) $$ [Hc HO Ha]
    · isplitr; · iexact HR
      isplitr; · iexact Hlev
      isplitl [Hc]; · iexact Hc
      isplitl [HO]; · iexact HO
      iexact Ha
    iintro ⟨Hz, HO, Hs⟩
    iapply (wait_landing m K c p 3 hpc 8 (by rw [lv_x]; decide) (h₂ h) rfl) $$ [Hc' HO Ha']
    · isplitr; · iexact HR
      isplitr; · iexact Hlev
      isplitl [Hc']; · iexact Hc'
      isplitl [HO]; · iexact HO
      iexact Ha'
    iintro ⟨Hz', HO, Hr⟩
    iapply Hk
    isplitl [Hz]; · iexact Hz
    isplitl [Hz']; · iexact Hz'
    isplitl [Hs]; · unfold xHand; iexact Hs
    isplitl [Hr]; · unfold xHand; iexact Hr
    iexact HO
  · subst hpc
    rw [if_pos rfl, peer_self, peer_self]
    iintro ⟨⟨#HR, -, Hs, -, HO, Ha, Ha'⟩, Hk⟩
    imod (close_own m K p 2) $$ [Ha] with Hz
    · isplitr; · iexact HR
      iexact Ha
    imod (close_own m K p 3) $$ [Ha'] with Hz'
    · isplitr; · iexact HR
      iexact Ha'
    iapply Hk
    isplitl [Hz]; · iexact Hz
    isplitl [Hz']; · iexact Hz'
    isplitl [Hs]; · iexact Hs
    isplitr; · iempintro
    iexact HO

/-! ## The blocks -/

/-- Block `p` of device `c`'s quantised product to slot `c` of its peer `p`. -/
theorem step_block_send (c p : Dev nD) {cond : Prop} [Decidable cond] (hc : cond ↔ p ≠ c) {n : cond → Dev nD} (hn : ∀ h, n h = p)
    {s₁ s₂ : cond → DmaSem sig} (h₁ : ∀ h, s₁ h = dq 0 p) (h₂ : ∀ h, s₂ h = dq 1 c)
    {o o' : Fin 3 → ℕ} (ho : o = ![p.val, 0, 0]) (ho' : o' = ![c.val, 0, 0])
    {hin : cond → ∀ a, o a + S1x1024x512.size a ≤ S4x1024x512.size a}
    {hip : cond → ∀ a, o' a + S1x1024x512.size a ≤ S4x1024x512.size a}
    {hsrc : ∀ h, (qSl o (hin h)).view.WordExact} {hdst : ∀ h, (rSl o' (hip h)).view.WordExact}
    {hsem : ∀ h, DmaTarget.Typed (nD := nD) .vmem (.dma (s₂ h)) (.remote (p := .tc) (Dev.tc (n h) : Thread nD τ) (rSl o' (hip h)) (.dma (s₁ h)))}
    {β : Type} {J : Prog (TpuEff nD τ sig (Elt F) Λ₀ .tc) β} {Q : β → sProp 𝕄} :
    iprop(records m K ∗ peer c p iprop(∃ f, rPts p c f) ∗ qPts c p (QB m c) ∗ owing c (8 + p.val)
        ∗ peer c p iprop(dutyTok ER (xCell 0 c p) 0 p ∗ dutyTok ER (xCell 1 p c) 0 c))
      ⊢ iprop((((if p = c then qPts c p (QB m c) else cred (tallyAt (xCell 0 c p) () (NX 0))) ∗ owing c (8 + p.val + 1)) -∗ run c J Q)
          -∗ run c (dite cond
            (fun h => Prog.op (.enqueueDma (qSl o (hin h))
              (.remote (Dev.tc (n h) : Thread nD τ) (rSl o' (hip h))
                (.dma (s₁ h))) (.dma (s₂ h)) (hsrc h) (hdst h) (hsem h)) fun _ => J) (fun _ => J)) Q) := by
  have hp : p.val < 4 := p.isLt
  refine BIClass.wand_intro (guarded hc (fun h hpc => ?_) fun h hpc => ?_)
  · rw [peer_ne hpc, peer_ne hpc, if_neg hpc]
    have hset := qSl_set p.val ho (hin h) (fun _ => rfl) squeezes_S1x1024x512_S1024x512
    have hset' := rSl_set c.val ho' (hip h) (fun _ => rfl) squeezes_S1x1024x512_S1024x512
    iintro ⟨⟨#HR, ⟨%fd, Hd⟩, Hs, HO, Ht1, Ht2⟩, Hk⟩
    iapply (send m K c p hpc (hn h) 0 1 (8 + p.val) (by omega) (pay_block c p hpc) (h₁ h) (h₂ h)
      (src := qSl o (hin h))
      (dst := rSl o' (hip h))
      (fs := QB m c) (fd := fd) (q := fullShare) rfl rfl
      (by show _ = qPts c p (QB m c); unfold qPts; rw [← hset])
      (by
        show _ = rPts p c (RB m p); unfold rPts; rw [← hset']
        exact pointsTo_congr (write_agrees (Val := Elt F)
          (rSl o' (hip h)).view fd (RB m p) _
          ((rSl_read c _ ho' (hip h) (fun _ => rfl) squeezes_S1x1024x512_S1024x512).trans (qSl_read p _ ho (hin h) (fun _ => rfl) squeezes_S1x1024x512_S1024x512).symm)))) $$ [Hd Hs HO Ht1 Ht2]
    · isplitr; · iexact HR
      isplitl [Hd]; · unfold rPts; rw [← hset']; iexact Hd
      isplitl [Hs]; · unfold xHand; iexact Hs
      isplitl [HO]; · iexact HO
      isplitl [Ht1]; · iexact Ht1
      iexact Ht2
    iexact Hk
  · subst hpc
    rw [if_pos rfl, owing_skip p (8 + p.val) (by omega) (by omega)]
    iintro ⟨⟨#HR, -, Hs, HO, -⟩, Hk⟩
    iapply Hk
    isplitl [Hs]; · iexact Hs
    iexact HO

/-- The wait for the block of `s`, and its rows of the result. -/
theorem step_block_recv (c p : Dev nD) {cond : Prop} [Decidable cond] (hc : cond ↔ p ≠ c)
    {s₁ : cond → DmaSem sig} (h₁ : ∀ h, s₁ h = dq 1 p)
    {o o' : Fin 3 → ℕ} (ho' : o' = ![p.val, 0, 0]) {u : Fin 2 → ℕ} (hu : u = ![1024 * p.val, 0])
    {hin : cond → ∀ a, o a + S1x1024x512.size a ≤ S4x1024x512.size a}
    {hip : cond → ∀ a, o' a + S1x1024x512.size a ≤ S4x1024x512.size a}
    {src : cond → Memref sig .tc .vmem S1024x512 .fp8e4m3}
    {hsrc : ∀ h, (src h).view.WordExact} {hdst : ∀ h, (rSl o (hin h)).view.WordExact}
    {hl : ∀ h, rM.view.LoadsAt (Rect.unit (s := S4x1024x512) o' S1x1024x512.size (hip h)).toLoadRect}
    {w : Vec F S1x1024x512 .fp8e4m3 → Vec F S1024x512 .f32} (hw : w (qv m p c) = ov m c p)
    {hou : cond → ∀ a, u a + S1024x512.size a ≤ S4096x512.size a}
    {hlu : ∀ h, oM.view.LoadsAt (Rect.unit (s := S4096x512) u S1024x512.size (hou h)).toLoadRect}
    {hx : ∀ h, (oM.access (Rect.unit (s := S4096x512) u S1024x512.size (hou h))).Stores Finset.univ}
    {hm : ∀ h, Finset.univ = Finset.univ ∨ ∀ a, (Rect.unit (s := S4096x512) u S1024x512.size (hou h)).stride a = 1}
    {β : Type} {J : Prog (TpuEff nD τ sig (Elt F) Λ₀ .tc) β} {Q : β → sProp 𝕄} :
    iprop(records m K ∗ levAts L lv ∗ peer c p (cred (tallyAt (xCell 1 c p) () (NX 1))) ∗ owing c 12 ∗ atPos ER (xCell 1 c p) 0 ∅ 0
        ∗ (if p = c then oPts c p (outAt m c) else iprop(∃ f, oPts c p f)))
      ⊢ iprop(((semVal (xCell 1 c p) 0 ∗ oPts c p (outAt m c) ∗ peer c p (rPts c p (RB m c)) ∗ owing c 12) -∗ run c J Q)
          -∗ run c (dite cond
            (fun h => Prog.op (.waitDma2 (s₁ h) (src h)
              (rSl o (hin h)) (hsrc h) (hdst h)) fun _ =>
              Prog.op (.load rM (Rect.unit (s := S4x1024x512) o' S1x1024x512.size (hip h)).toLoadRect (hl h)) fun v =>
              Prog.op (.load oM (Rect.unit (s := S4096x512) u S1024x512.size (hou h)).toLoadRect (hlu h)) fun _ =>
              Prog.op (.store oM (Rect.unit (s := S4096x512) u S1024x512.size (hou h)) (w v) Finset.univ (hx h) (hm h)) fun _ => J)
            (fun _ => J)) Q) := by
  refine BIClass.wand_intro (guarded hc (fun h hpc => ?_) fun h hpc => ?_)
  · rw [peer_ne hpc, peer_ne hpc, if_neg hpc]
    iintro ⟨⟨#HR, #Hlev, Hc, HO, Ha, Ho⟩, Hk⟩
    iapply (wait_landing m K c p 1 hpc 12 (by rw [lv_x]; decide) (h₁ h) rfl) $$ [Hc HO Ha]
    · isplitr; · iexact HR
      isplitr; · iexact Hlev
      isplitl [Hc]; · iexact Hc
      isplitl [HO]; · iexact HO
      iexact Ha
    iintro ⟨Hz, HO, Hr⟩
    unfold xHand rPts oPts
    iapply (get c (M := rM) (g := RB m c) (rAcc_set p.val ho' (hip h)) (r_read p _ ho' (hip h))) $$ Hr
    iintro Hr
    iapply (put c (M := oM) (g := outAt m c) (oAcc_set p.val hu (hou h)) ((o_read p _ hu (hou h)).trans hw.symm)) $$ Ho
    iintro Ho
    iapply Hk
    isplitl [Hz]; · iexact Hz
    isplitl [Ho]; · iexact Ho
    isplitl [Hr]; · iexact Hr
    iexact HO
  · subst hpc
    rw [if_pos rfl, peer_self, peer_self]
    iintro ⟨⟨#HR, -, -, HO, Ha, Ho⟩, Hk⟩
    imod (close_own m K p 1) $$ [Ha] with Hz
    · isplitr; · iexact HR
      iexact Ha
    iapply Hk
    isplitl [Hz]; · iexact Hz
    isplitl [Ho]; · iexact Ho
    isplitr; · iempintro
    iexact HO

/-- The wait for block `p` to have left. -/
theorem step_block_sent (c p : Dev nD) {cond : Prop} [Decidable cond] (hc : cond ↔ p ≠ c)
    {s₁ : cond → DmaSem sig} (h₁ : ∀ h, s₁ h = dq 0 p)
    {o : Fin 3 → ℕ}    {hin : cond → ∀ a, o a + S1x1024x512.size a ≤ S4x1024x512.size a}
    {src : cond → Memref sig .tc .vmem S1024x512 .fp8e4m3}
    {hsrc : ∀ h, (src h).view.WordExact} {hdst : ∀ h, (qSl o (hin h)).view.WordExact}
    {β : Type} {J : Prog (TpuEff nD τ sig (Elt F) Λ₀ .tc) β} {Q : β → sProp 𝕄} :
    iprop(records m K ∗ levAts L lv ∗ (if p = c then qPts c p (QB m c) else cred (tallyAt (xCell 0 c p) () (NX 0))) ∗ owing c 12
        ∗ atPos ER (xCell 0 c p) 0 ∅ 0)
      ⊢ iprop(((semVal (xCell 0 c p) 0 ∗ qPts c p (QB m c) ∗ owing c 12) -∗ run c J Q)
          -∗ run c (dite cond
            (fun h => Prog.op (.waitDma2 (s₁ h) (src h)
              (qSl o (hin h)) (hsrc h) (hdst h)) fun _ => J)
            (fun _ => J)) Q) := by
  refine BIClass.wand_intro (guarded hc (fun h hpc => ?_) fun h hpc => ?_)
  · rw [if_neg hpc]
    iintro ⟨⟨#HR, #Hlev, Hc, HO, Ha⟩, Hk⟩
    iapply (wait_landing m K c p 0 hpc 12 (by rw [lv_x]; decide) (h₁ h) rfl) $$ [Hc HO Ha]
    · isplitr; · iexact HR
      isplitr; · iexact Hlev
      isplitl [Hc]; · iexact Hc
      isplitl [HO]; · iexact HO
      iexact Ha
    iintro ⟨Hz, HO, Hs⟩
    iapply Hk
    isplitl [Hz]; · iexact Hz
    isplitl [Hs]; · unfold xHand; iexact Hs
    iexact HO
  · subst hpc
    rw [if_pos rfl]
    iintro ⟨⟨#HR, -, Hs, HO, Ha⟩, Hk⟩
    imod (close_own m K p 0) $$ [Ha] with Hz
    · isplitr; · iexact HR
      iexact Ha
    iapply Hk
    isplitl [Hz]; · iexact Hz
    isplitl [Hs]; · iexact Hs
    iexact HO

end Cert.Proof

end
-- ==== Proof.Enter.lean ====
module

public import proofs.«01_k».proof.Proof.Exchange

/-!
The body up to the first copies.
-/

@[expose] public section

noncomputable section

namespace Cert.Proof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)
variable (K : Dev nD × Ix17 → ℕ)

/-! ## Families over the four devices -/

/-- A resource for each of the four. -/
abbrev all (Φ : Fin 4 → sProp 𝕄) : sProp 𝕄 := iprop(Φ 0 ∗ Φ 1 ∗ Φ 2 ∗ Φ 3)

theorem all_eq (Φ : Fin 4 → sProp 𝕄) : bigSep Finset.univ Φ = all Φ := four Φ

theorem cond1 (c : Dev nD) : k0_cond1 c = 1#1 ↔ (0 : Dev nD) ≠ c := by revert c; decide
theorem cond2 (c : Dev nD) : k0_cond2 c = 1#1 ↔ (1 : Dev nD) ≠ c := by revert c; decide
theorem cond3 (c : Dev nD) : k0_cond3 c = 1#1 ↔ (2 : Dev nD) ≠ c := by revert c; decide
theorem cond4 (c : Dev nD) : k0_cond4 c = 1#1 ↔ (3 : Dev nD) ≠ c := by revert c; decide

theorem run_deviceId (c : Dev nD) {α : Type} (k : Dev nD → Prog (TpuEff nD τ sig (Elt F) Λ₀ .tc) α) (Q : α → sProp 𝕄) :
    run c (k c) Q ⊢ run c (.op .deviceId k) Q := by
  rw [run, run, wp_deviceId]

theorem run_ret (c : Dev nD) {α : Type} (a : α) (Q : α → sProp 𝕄) : Q a ⊢ run c (.ret a) Q := by
  rw [run, wp_ret]
  iintro H
  imodintro
  iexact H

theorem part1 (c : Dev nD) (Kt : _ → sProp 𝕄) :
  iprop(records m K ∗ levAts L lv ∗ owing c 0 ∗ all (fun p => peer c p (dutyTok ER (barCell p) 0 c)) ∗ all (fun p => iprop(∃ f, aPts c p fullShare f))
      ∗ all (fun p => iprop(∃ f, rPts c p f)) ∗ cred (tallyAt (barCell c) () 3) ∗ atPos ER (barCell c) 0 ∅ 0
      ∗ (∃ f, bPts c 0 f) ∗ (∃ f, bPts c 1 f) ∗ wPts m c 0 ∗ wPts m c 1
      ∗ semVal ((c : Thread nD τ), .dma (wq 0)) 0 ∗ semVal ((c : Thread nD τ), .dma (wq 1)) 0)
   ⊢ iprop(((owing c 4 ∗ all (fun p => if p = c then iprop((∃ f, aPts c c fullShare f) ∗ ∃ f, rPts c c f) else iprop(emp))
        ∗ semVal (barCell c) 0 ∗ (bigSep Finset.univ fun p => peer c p (barPay c p)) ∗ flying m c 0 0 ∗ flying m c 1 1)
          -∗ Kt ⟨c, Scalar.remsi (Scalar.divsi c.word 1#32) 4#32⟩)
      -∗ run c (k0_part1 (F := F) xM (Memref.isWhole_whole _) wM (Memref.isWhole_whole _) oM (Memref.isWhole_whole _) bM (Memref.isWhole_whole _) yM (Memref.isWhole_whole _)
      qM (Memref.isWhole_whole _) rM (Memref.isWhole_whole _) aM (Memref.isWhole_whole _) cc0_scratch5 cc0_scratch6 cc0_scratch7 cc0_scratch8 cc0_scratch9) Kt) := by
  rw [k0_part1_eq_skeleton]; unfold k0_part1_skel
  simp -zeta only [semSignalWord, semWaitWord, Prog.lift, Prog.bind_op, Prog.bind_ret, Prog.pure_eq_ret]
  iintro ⟨#HR, #Hlev, HO, ⟨Ht0, Ht1, Ht2, Ht3⟩, ⟨Ha0, Ha1, Ha2, Ha3⟩, ⟨Hr0, Hr1, Hr2, Hr3⟩, Hc, Hat, Hb0, Hb1, Hw0, Hw1, Hv0, Hv1⟩ Hk
  iapply run_deviceId
  iapply (step_signal m K c 0 (cond1 c) (fun _ => rfl)) $$ [HO Ht0 Ha0 Hr0]
  · isplitr; · iexact HR
    isplitl [HO]; · iexact HO
    isplitl [Ht0]; · iexact Ht0
    isplitl [Ha0]; · iexact Ha0
    iexact Hr0
  iintro ⟨HO, H0⟩
  iapply (step_signal m K c 1 (cond2 c) (fun _ => rfl)) $$ [HO Ht1 Ha1 Hr1]
  · isplitr; · iexact HR
    isplitl [HO]; · iexact HO
    isplitl [Ht1]; · iexact Ht1
    isplitl [Ha1]; · iexact Ha1
    iexact Hr1
  iintro ⟨HO, H1⟩
  iapply (step_signal m K c 2 (cond3 c) (fun _ => rfl)) $$ [HO Ht2 Ha2 Hr2]
  · isplitr; · iexact HR
    isplitl [HO]; · iexact HO
    isplitl [Ht2]; · iexact Ht2
    isplitl [Ha2]; · iexact Ha2
    iexact Hr2
  iintro ⟨HO, H2⟩
  iapply (step_signal m K c 3 (cond4 c) (fun _ => rfl)) $$ [HO Ht3 Ha3 Hr3]
  · isplitr; · iexact HR
    isplitl [HO]; · iexact HO
    isplitl [Ht3]; · iexact Ht3
    isplitl [Ha3]; · iexact Ha3
    iexact Hr3
  iintro ⟨HO, H3⟩
  iapply (step_barrier m K c (by decide)) $$ [HO Hc Hat]
  · isplitr; · iexact HR
    isplitr; · iexact Hlev
    isplitl [Hc]; · iexact Hc
    isplitl [HO]; · iexact HO
    iexact Hat
  iintro ⟨Hbar, HO, Hp⟩
  iapply (step_copy m c 0 0 (semw 0 rfl inb_S2_S1_0 squeezes_S1_S_) rfl rfl) $$ [Hb0 Hw0 Hv0]
  · isplitl [Hb0]; · iexact Hb0
    isplitl [Hw0]; · iexact Hw0
    iexact Hv0
  iintro Hf0
  iapply (step_copy m c 1 1 (semw 1 rfl inb_S2_S1_1 squeezes_S1_S_) rfl rfl) $$ [Hb1 Hw1 Hv1]
  · isplitl [Hb1]; · iexact Hb1
    isplitl [Hw1]; · iexact Hw1
    iexact Hv1
  iintro Hf1
  iapply run_ret
  iapply Hk
  isplitl [HO]; · iexact HO
  isplitl [H0 H1 H2 H3]
  · isplitl [H0]; · iexact H0
    isplitl [H1]; · iexact H1
    isplitl [H2]; · iexact H2
    iexact H3
  isplitl [Hbar]; · iexact Hbar
  isplitl [Hp]; · iexact Hp
  isplitl [Hf0]; · iexact Hf0
  iexact Hf1

end Cert.Proof

end
-- ==== Proof.Product.lean ====
module

public import proofs.«01_k».proof.Proof.Enter

/-!
# The product: the columns arrive, each block is computed and kept
-/

@[expose] public section

noncomputable section

namespace Cert.Proof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)
variable (K : Dev nD × Ix17 → ℕ)

/-! ## One slot at a time -/

section Slots
variable (c : Dev nD) {β : Type} {Q : β → sProp 𝕄}

/-- Device `c`'s rows of `x`, at hand. -/
def xPts : sProp 𝕄 := ((c : Thread nD τ).loc cc0_stg0_0) ↦{fullShare} (X m c)

theorem get_x {o : Fin 2 → ℕ} (ho : o = fun _ => 0) {h} {hl} {k : Vec F S1024x4096 .f32 → Prog (TpuEff nD τ sig (Elt F) Λ₀ .tc) β}
    {Q : β → sProp 𝕄} :
    xPts m c ⊢ iprop((xPts m c -∗ run c (k (X m c)) Q)
      -∗ run c (Prog.op (.load xM (Rect.unit (s := S1024x4096) o S1024x4096.size h).toLoadRect hl) k) Q) := by
  have e := Memref.readAt_unit_zero (Elt F) cc0_stg0_0 ho h (X m c)
  unfold xPts
  iintro H Hk
  iapply (wp_load_rect 𝒱₀ (c : Thread nD τ) none Set.univ (m := xM) (r := Rect.unit (s := S1024x4096) o S1024x4096.size h)
    (Finset.subset_univ _)) $$ H
  iintro H
  rw [show (xM.access (Rect.unit (s := S1024x4096) o S1024x4096.size h)).read (Elt F) (X m c) = X m c from e]
  iapply Hk
  iexact H

theorem get_b (b : Fin 2) (j : Fin 4) {o : Fin 3 → ℕ} (ho : o = ![b.val, 0, 0]) {h} {hl}
    {k : Vec F S1x4096x512 .f32 → Prog (TpuEff nD τ sig (Elt F) Λ₀ .tc) β} {Q : β → sProp 𝕄} :
    bPts c b (WB m c j) ⊢ iprop((bPts c b (WB m c j) -∗ run c (k (wv m c j)) Q)
      -∗ run c (Prog.op (.load bM (Rect.unit (s := S2x4096x512) o S1x4096x512.size h).toLoadRect hl) k) Q) := by
  unfold bPts
  exact get c (M := bM) (r := Rect.unit (s := S2x4096x512) o S1x4096x512.size h) (g := WB m c j) (bAcc_set b.val ho h) (b_read b (fun _ => wv m c j) ho h)

theorem get_y (p : Fin 4) {o : Fin 3 → ℕ} (ho : o = ![p.val, 0, 0]) {h} {hl}
    {k : Vec F S1x1024x512 .f32 → Prog (TpuEff nD τ sig (Elt F) Λ₀ .tc) β} {Q : β → sProp 𝕄} :
    yPts c p (YB m c) ⊢ iprop((yPts c p (YB m c) -∗ run c (k (yv m c p)) Q)
      -∗ run c (Prog.op (.load yM (Rect.unit (s := S4x1024x512) o S1x1024x512.size h).toLoadRect hl) k) Q) := by
  unfold yPts
  exact get c (M := yM) (r := Rect.unit (s := S4x1024x512) o S1x1024x512.size h) (g := YB m c) (yAcc_set p.val ho h) (y_read p _ ho h)

theorem get_q (p : Fin 4) {o : Fin 3 → ℕ} (ho : o = ![p.val, 0, 0]) {h} {hl}
    {k : Vec F S1x1024x512 .fp8e4m3 → Prog (TpuEff nD τ sig (Elt F) Λ₀ .tc) β} {Q : β → sProp 𝕄} :
    qPts c p (QB m c) ⊢ iprop((qPts c p (QB m c) -∗ run c (k (qv m c p)) Q)
      -∗ run c (Prog.op (.load qM (Rect.unit (s := S4x1024x512) o S1x1024x512.size h).toLoadRect hl) k) Q) := by
  unfold qPts
  exact get c (M := qM) (r := Rect.unit (s := S4x1024x512) o S1x1024x512.size h) (g := QB m c) (qAcc_set p.val ho h) (q_read p _ ho h)

theorem put_y (p : Fin 4) {o : Fin 3 → ℕ} (ho : o = ![p.val, 0, 0]) {w : Vec F S1x1024x512 .f32} (hw : yv m c p = w) {h} {hl} {hx} {hm}
    {J : Prog (TpuEff nD τ sig (Elt F) Λ₀ .tc) β} {Q : β → sProp 𝕄} :
    iprop(∃ f, yPts c p f) ⊢ iprop((yPts c p (YB m c) -∗ run c J Q)
      -∗ run c (Prog.op (.load yM (Rect.unit (s := S4x1024x512) o S1x1024x512.size h).toLoadRect hl) fun _ =>
        Prog.op (.store yM (Rect.unit (s := S4x1024x512) o S1x1024x512.size h) w Finset.univ hx hm) fun _ => J) Q) := by
  unfold yPts
  exact put c (M := yM) (r := Rect.unit (s := S4x1024x512) o S1x1024x512.size h) (g := YB m c) (yAcc_set p.val ho h) ((y_read p _ ho h).trans hw)

theorem put_q (p : Fin 4) {o : Fin 3 → ℕ} (ho : o = ![p.val, 0, 0]) {w : Vec F S1x1024x512 .fp8e4m3} (hw : qv m c p = w) {h} {hl} {hx} {hm}
    {J : Prog (TpuEff nD τ sig (Elt F) Λ₀ .tc) β} {Q : β → sProp 𝕄} :
    iprop(∃ f, qPts c p f) ⊢ iprop((qPts c p (QB m c) -∗ run c J Q)
      -∗ run c (Prog.op (.load qM (Rect.unit (s := S4x1024x512) o S1x1024x512.size h).toLoadRect hl) fun _ =>
        Prog.op (.store qM (Rect.unit (s := S4x1024x512) o S1x1024x512.size h) w Finset.univ hx hm) fun _ => J) Q) := by
  unfold qPts
  exact put c (M := qM) (r := Rect.unit (s := S4x1024x512) o S1x1024x512.size h) (g := QB m c) (qAcc_set p.val ho h) ((q_read p _ ho h).trans hw)

theorem put_a (p : Fin 4) {o : Fin 3 → ℕ} (ho : o = ![p.val, 0, 0]) {w : Vec F S1x8x128 .f32} (hw : amv m p = w) {h} {hl} {hx} {hm}
    {J : Prog (TpuEff nD τ sig (Elt F) Λ₀ .tc) β} {Q : β → sProp 𝕄} :
    iprop(∃ f, aPts c p fullShare f) ⊢ iprop((aPts c p fullShare (AM m) -∗ run c J Q)
      -∗ run c (Prog.op (.load aM (Rect.unit (s := S4x8x128) o S1x8x128.size h).toLoadRect hl) fun _ =>
        Prog.op (.store aM (Rect.unit (s := S4x8x128) o S1x8x128.size h) w Finset.univ hx hm) fun _ => J) Q) := by
  unfold aPts
  exact put c (M := aM) (r := Rect.unit (s := S4x8x128) o S1x8x128.size h) (g := AM m) (aAcc_set p.val ho h) ((a_read p _ ho h).trans hw)

theorem put_o (p : Fin 4) {o : Fin 2 → ℕ} (ho : o = ![1024 * p.val, 0]) {w : Vec F S1024x512 .f32} (hw : ov m c p = w) {h} {hl} {hx} {hm}
    {J : Prog (TpuEff nD τ sig (Elt F) Λ₀ .tc) β} {Q : β → sProp 𝕄} :
    iprop(∃ f, oPts c p f) ⊢ iprop((oPts c p (outAt m c) -∗ run c J Q)
      -∗ run c (Prog.op (.load oM (Rect.unit (s := S4096x512) o S1024x512.size h).toLoadRect hl) fun _ =>
        Prog.op (.store oM (Rect.unit (s := S4096x512) o S1024x512.size h) w Finset.univ hx hm) fun _ => J) Q) := by
  unfold oPts
  exact put c (M := oM) (r := Rect.unit (s := S4096x512) o S1024x512.size h) (g := outAt m c) (oAcc_set p.val ho h) ((o_read p _ ho h).trans hw)

end Slots

/-! ## The product -/

section Parts
variable (c : Dev nD)

theorem part2 (Kt : _ → sProp 𝕄) :
  iprop(levAts L lv ∗ owing c 4 ∗ flying m c 0 0 ∗ xPts m c ∗ (∃ f, yPts c 0 f) ∗ wPts m c 2)
   ⊢ iprop(((owing c 4 ∗ flying m c 0 2 ∗ wPts m c 0 ∗ xPts m c ∗ yPts c 0 (YB m c)) -∗ Kt (k0_pay3 (X m c) (wv m c 0)))
      -∗ run c (k0_part2 (F := F) xM (Memref.isWhole_whole _) wM (Memref.isWhole_whole _) oM (Memref.isWhole_whole _) bM (Memref.isWhole_whole _) yM (Memref.isWhole_whole _)
      qM (Memref.isWhole_whole _) rM (Memref.isWhole_whole _) aM (Memref.isWhole_whole _) cc0_scratch5 cc0_scratch6 cc0_scratch7 cc0_scratch8 cc0_scratch9) Kt) := by
  rw [k0_part2_eq_skeleton]; unfold k0_part2_skel
  simp -zeta only [Prog.lift, Prog.bind_op, Prog.bind_ret, Prog.pure_eq_ret]
  iintro ⟨#Hlev, HO, Hf, Hx, Hy, Hw2⟩ Hk
  iapply (step_landed m c 0 0 4 (semw 0 rfl inb_S2_S1_0 squeezes_S1_S_)) $$ [Hf HO]
  · isplitr; · iexact Hlev
    isplitl [Hf]; · iexact Hf
    iexact HO
  iintro ⟨Hb, Hw0, Hv, HO⟩
  iapply (get_x m c (by funext x; fin_cases x <;> rfl)) $$ Hx
  iintro Hx
  iapply (get_b m c 0 0 rfl) $$ Hb
  iintro Hb
  iapply (put_y m c 0 rfl rfl) $$ Hy
  iintro Hy
  iapply (step_copy m c 0 2 (semw 0 rfl inb_S2_S1_0 squeezes_S1_S_) rfl rfl) $$ [Hb Hw2 Hv]
  · isplitl [Hb]; · iexists _; iexact Hb
    isplitl [Hw2]; · iexact Hw2
    iexact Hv
  iintro Hf
  iapply run_ret
  iapply Hk
  isplitl [HO]; · iexact HO
  isplitl [Hf]; · iexact Hf
  isplitl [Hw0]; · iexact Hw0
  isplitl [Hx]; · iexact Hx
  iexact Hy

theorem part3 (Kt : _ → sProp 𝕄) :
  iprop(levAts L lv ∗ owing c 4 ∗ flying m c 1 1 ∗ flying m c 0 2 ∗ xPts m c ∗ (∃ f, yPts c 1 f) ∗ wPts m c 3)
   ⊢ iprop(((owing c 4 ∗ flying m c 1 3 ∗ bPts c 0 (WB m c 2) ∗ semVal ((c : Thread nD τ), .dma (wq 0)) 0 ∗ wPts m c 1 ∗ wPts m c 2 ∗ xPts m c
          ∗ yPts c 1 (YB m c)) -∗ Kt ⟨k0_pay6 (k0_pay3 (X m c) (wv m c 0)) (X m c) (wv m c 1), k0_pay7 (X m c)⟩)
      -∗ run c (k0_part3 (F := F) xM (Memref.isWhole_whole _) wM (Memref.isWhole_whole _) oM (Memref.isWhole_whole _) bM (Memref.isWhole_whole _) yM (Memref.isWhole_whole _)
      qM (Memref.isWhole_whole _) rM (Memref.isWhole_whole _) aM (Memref.isWhole_whole _) cc0_scratch5 cc0_scratch6 cc0_scratch7 cc0_scratch8 cc0_scratch9
        (k0_pay3 (X m c) (wv m c 0))) Kt) := by
  rw [k0_part3_eq_skeleton]; unfold k0_part3_skel
  simp -zeta only [Prog.lift, Prog.bind_op, Prog.bind_ret, Prog.pure_eq_ret]
  iintro ⟨#Hlev, HO, Hf, Hf0, Hx, Hy, Hw3⟩ Hk
  iapply (step_landed m c 1 1 4 (semw 1 rfl inb_S2_S1_1 squeezes_S1_S_)) $$ [Hf HO]
  · isplitr; · iexact Hlev
    isplitl [Hf]; · iexact Hf
    iexact HO
  iintro ⟨Hb, Hw1, Hv, HO⟩
  iapply (get_x m c (by funext x; fin_cases x <;> rfl)) $$ Hx
  iintro Hx
  iapply (get_b m c 1 1 rfl) $$ Hb
  iintro Hb
  iapply (put_y m c 1 rfl rfl) $$ Hy
  iintro Hy
  iapply (step_copy m c 1 3 (semw 1 rfl inb_S2_S1_1 squeezes_S1_S_) rfl rfl) $$ [Hb Hw3 Hv]
  · isplitl [Hb]; · iexists _; iexact Hb
    isplitl [Hw3]; · iexact Hw3
    iexact Hv
  iintro Hf
  iapply (step_landed m c 0 2 4 (semw 0 rfl inb_S2_S1_0 squeezes_S1_S_)) $$ [Hf0 HO]
  · isplitr; · iexact Hlev
    isplitl [Hf0]; · iexact Hf0
    iexact HO
  iintro ⟨Hb, Hw2, Hv, HO⟩
  iapply (get_x m c (by funext x; fin_cases x <;> rfl)) $$ Hx
  iintro Hx
  iapply run_ret
  iapply Hk
  isplitl [HO]; · iexact HO
  isplitl [Hf]; · iexact Hf
  isplitl [Hb]; · iexact Hb
  isplitl [Hv]; · iexact Hv
  isplitl [Hw1]; · iexact Hw1
  isplitl [Hw2]; · iexact Hw2
  isplitl [Hx]; · iexact Hx
  iexact Hy

theorem part4 (Kt : _ → sProp 𝕄) :
  iprop(levAts L lv ∗ owing c 4 ∗ flying m c 1 3 ∗ bPts c 0 (WB m c 2) ∗ xPts m c ∗ (∃ f, yPts c 2 f) ∗ (∃ f, yPts c 3 f))
   ⊢ iprop(((owing c 4 ∗ bPts c 0 (WB m c 2) ∗ bPts c 1 (WB m c 3) ∗ semVal ((c : Thread nD τ), .dma (wq 1)) 0 ∗ wPts m c 3 ∗ xPts m c
          ∗ yPts c 2 (YB m c) ∗ yPts c 3 (YB m c))
          -∗ Kt (k0_pay12 (k0_pay6 (k0_pay3 (X m c) (wv m c 0)) (X m c) (wv m c 1)) (k0_pay7 (X m c)) (wv m c 2) (X m c) (wv m c 3)))
      -∗ run c (k0_part4 (F := F) xM (Memref.isWhole_whole _) wM (Memref.isWhole_whole _) oM (Memref.isWhole_whole _) bM (Memref.isWhole_whole _) yM (Memref.isWhole_whole _)
      qM (Memref.isWhole_whole _) rM (Memref.isWhole_whole _) aM (Memref.isWhole_whole _) cc0_scratch5 cc0_scratch6 cc0_scratch7 cc0_scratch8 cc0_scratch9
        (k0_pay6 (k0_pay3 (X m c) (wv m c 0)) (X m c) (wv m c 1)) (k0_pay7 (X m c))) Kt) := by
  rw [k0_part4_eq_skeleton]; unfold k0_part4_skel
  simp -zeta only [Prog.lift, Prog.bind_op, Prog.bind_ret, Prog.pure_eq_ret]
  iintro ⟨#Hlev, HO, Hf, Hb0, Hx, Hy2, Hy3⟩ Hk
  iapply (get_b m c 0 2 rfl) $$ Hb0
  iintro Hb0
  iapply (put_y m c 2 rfl rfl) $$ Hy2
  iintro Hy2
  iapply (step_landed m c 1 3 4 (semw 1 rfl inb_S2_S1_1 squeezes_S1_S_)) $$ [Hf HO]
  · isplitr; · iexact Hlev
    isplitl [Hf]; · iexact Hf
    iexact HO
  iintro ⟨Hb, Hw3, Hv, HO⟩
  iapply (get_x m c (by funext x; fin_cases x <;> rfl)) $$ Hx
  iintro Hx
  iapply (get_b m c 1 3 rfl) $$ Hb
  iintro Hb
  iapply (put_y m c 3 rfl rfl) $$ Hy3
  iintro Hy3
  iapply run_ret
  iapply Hk
  isplitl [HO]; · iexact HO
  isplitl [Hb0]; · iexact Hb0
  isplitl [Hb]; · iexact Hb
  isplitl [Hv]; · iexact Hv
  isplitl [Hw3]; · iexact Hw3
  isplitl [Hx]; · iexact Hx
  isplitl [Hy2]; · iexact Hy2
  iexact Hy3

end Parts

end Cert.Proof

end
-- ==== Proof.Tiles.lean ====
module

public import proofs.«01_k».proof.Proof.Product

/-!
# The exchange of tiles
-/

@[expose] public section

noncomputable section

namespace Cert.Proof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)
variable (K : Dev nD × Ix17 → ℕ)

theorem cond5 (c : Dev nD) : k0_cond5 c = 1#1 ↔ (0 : Dev nD) ≠ c := by revert c; decide
theorem cond6 (c : Dev nD) : k0_cond6 c = 1#1 ↔ (1 : Dev nD) ≠ c := by revert c; decide
theorem cond7 (c : Dev nD) : k0_cond7 c = 1#1 ↔ (2 : Dev nD) ≠ c := by revert c; decide
theorem cond8 (c : Dev nD) : k0_cond8 c = 1#1 ↔ (3 : Dev nD) ≠ c := by revert c; decide
theorem cond9 (c : Dev nD) : k0_cond9 c = 1#1 ↔ (0 : Dev nD) ≠ c := by revert c; decide
theorem cond10 (c : Dev nD) : k0_cond10 c = 1#1 ↔ (1 : Dev nD) ≠ c := by revert c; decide
theorem cond11 (c : Dev nD) : k0_cond11 c = 1#1 ↔ (2 : Dev nD) ≠ c := by revert c; decide
theorem cond12 (c : Dev nD) : k0_cond12 c = 1#1 ↔ (3 : Dev nD) ≠ c := by revert c; decide

/-! ## Four shares of a tile -/

omit [FloatOps F] in
/-- A slot held whole is held in the four shares, -/
theorem tile_split (c p : Dev nD) (f : Buf (Elt F) ((c : Thread nD τ).loc cc0_scratch4)) :
    aPts c p fullShare f ⊢ all fun s => aPts c p (sh s) f := by
  have h1 := (pointsTo_share (PosShare.mem_left_op_right fullShare)
    (ℓ := (c : Thread nD τ).loc cc0_scratch4) (I := lead (n := 4) (a := 8) (b := 128) p.val) (f := f) (Ix := Unit) (Name := ℕ) (U := UU) (Lvl := ℕ)).1
  have h2 := (pointsTo_share (PosShare.mem_left_op_right fullShare.left)
    (ℓ := (c : Thread nD τ).loc cc0_scratch4) (I := lead (n := 4) (a := 8) (b := 128) p.val) (f := f) (Ix := Unit) (Name := ℕ) (U := UU) (Lvl := ℕ)).1
  have h3 := (pointsTo_share (PosShare.mem_left_op_right fullShare.right)
    (ℓ := (c : Thread nD τ).loc cc0_scratch4) (I := lead (n := 4) (a := 8) (b := 128) p.val) (f := f) (Ix := Unit) (Name := ℕ) (U := UU) (Lvl := ℕ)).1
  unfold aPts
  iintro H
  ihave H := h1 $$ H
  icases H with ⟨Hl, Hr⟩
  ihave Hl := h2 $$ Hl
  icases Hl with ⟨Hll, Hlr⟩
  ihave Hr := h3 $$ Hr
  icases Hr with ⟨Hrl, Hrr⟩
  isplitl [Hll]; · iexact Hll
  isplitl [Hlr]; · iexact Hlr
  isplitl [Hrl]; · iexact Hrl
  iexact Hrr

omit [FloatOps F] in
/-- and back. -/
theorem tile_join (c p : Dev nD) (f : Buf (Elt F) ((c : Thread nD τ).loc cc0_scratch4)) :
    (all fun s => aPts c p (sh s) f) ⊢ aPts c p fullShare f := by
  have h1 := (pointsTo_share (PosShare.mem_left_op_right fullShare)
    (ℓ := (c : Thread nD τ).loc cc0_scratch4) (I := lead (n := 4) (a := 8) (b := 128) p.val) (f := f) (Ix := Unit) (Name := ℕ) (U := UU) (Lvl := ℕ)).2
  have h2 := (pointsTo_share (PosShare.mem_left_op_right fullShare.left)
    (ℓ := (c : Thread nD τ).loc cc0_scratch4) (I := lead (n := 4) (a := 8) (b := 128) p.val) (f := f) (Ix := Unit) (Name := ℕ) (U := UU) (Lvl := ℕ)).2
  have h3 := (pointsTo_share (PosShare.mem_left_op_right fullShare.right)
    (ℓ := (c : Thread nD τ).loc cc0_scratch4) (I := lead (n := 4) (a := 8) (b := 128) p.val) (f := f) (Ix := Unit) (Name := ℕ) (U := UU) (Lvl := ℕ)).2
  unfold aPts
  iintro ⟨Hll, Hlr, Hrl, Hrr⟩
  iapply h1
  isplitl [Hll Hlr]
  · iapply h2
    isplitl [Hll]; · iexact Hll
    iexact Hlr
  · iapply h3
    isplitl [Hrl]; · iexact Hrl
    iexact Hrr

/-- One's own slot and those the peers filled are the buffer. -/
theorem tiles_whole (c : Dev nD) :
    iprop(aPts c c fullShare (AM m) ∗ all fun p => peer c p (aPts c p fullShare (AM m)))
      ⊢ (((c : Thread nD τ).loc cc0_scratch4) ↦{fullShare} (AM m) : sProp 𝕄) := by
  rw [← all_eq, Ring.pointsTo_blocks (fun p : Fin 4 => lead (n := 4) (a := 8) (b := 128) p.val) lead_disj lead_cover,
    ← pick c (fun p => aPts c p fullShare (AM m)) fun p => aPts c p fullShare (AM m)]
  refine Entails.of_eq (bigSep_congr fun p _ => ?_)
  split <;> rfl

/-- The whole buffer read. -/
theorem get_a (c : Dev nD) {β : Type} {o : Fin 3 → ℕ} (ho : o = fun _ => 0) {h} {hl} {k : Vec F S4x8x128 .f32 → Prog (TpuEff nD τ sig (Elt F) Λ₀ .tc) β}
    {Q : β → sProp 𝕄} :
    (((c : Thread nD τ).loc cc0_scratch4) ↦{fullShare} (AM m) : sProp 𝕄) ⊢ iprop(((((c : Thread nD τ).loc cc0_scratch4) ↦{fullShare} (AM m)) -∗ run c (k (AM m)) Q)
      -∗ run c (Prog.op (.load aM (Rect.unit (s := S4x8x128) o S4x8x128.size h).toLoadRect hl) k) Q) := by
  have e := Memref.readAt_unit_zero (Elt F) cc0_scratch4 ho h (AM m)
  iintro H Hk
  iapply (wp_load_rect 𝒱₀ (c : Thread nD τ) none Set.univ (m := aM) (r := Rect.unit (s := S4x8x128) o S4x8x128.size h)
    (Finset.subset_univ _)) $$ H
  iintro H
  rw [show (aM.access (Rect.unit (s := S4x8x128) o S4x8x128.size h)).read (Elt F) (AM m) = AM m from e]
  iapply Hk
  iexact H

/-! ## The exchange of tiles -/

theorem part5 (c : Dev nD) (v2 : BitVec 32) (v116 : FVec F S1x8x128 .f32) (hv : amv m c = k0_pay13 v116) (Kt : _ → sProp 𝕄) :
  iprop(records m K ∗ levAts L lv ∗ owing c 4 ∗ (∃ f, aPts c c fullShare f) ∗ all (fun p => peer c p iprop(∃ f, aPts p c fullShare f))
      ∗ all (fun p => peer c p iprop(dutyTok ER (xCell 2 c p) 0 p ∗ dutyTok ER (xCell 3 p c) 0 c))
      ∗ all (fun p => peer c p (cred (tallyAt (xCell 3 c p) () (NX 3))))
      ∗ all (fun p => atPos ER (xCell 2 c p) 0 ∅ 0) ∗ all (fun p => atPos ER (xCell 3 c p) 0 ∅ 0))
   ⊢ iprop(((owing c 8 ∗ (((c : Thread nD τ).loc cc0_scratch4) ↦{fullShare} (AM m)) ∗ all (fun p => semVal (xCell 2 c p) 0)
          ∗ all (fun p => semVal (xCell 3 c p) 0)) -∗ Kt (k0_pay14 (AM m)))
      -∗ run c (k0_part5 (F := F) xM (Memref.isWhole_whole _) wM (Memref.isWhole_whole _) oM (Memref.isWhole_whole _) bM (Memref.isWhole_whole _) yM (Memref.isWhole_whole _)
      qM (Memref.isWhole_whole _) rM (Memref.isWhole_whole _) aM (Memref.isWhole_whole _) cc0_scratch5 cc0_scratch6 cc0_scratch7 cc0_scratch8 cc0_scratch9 c v2 v116) Kt) := by
  rw [k0_part5_eq_skeleton]; unfold k0_part5_skel
  simp -zeta only [Prog.lift, Prog.bind_op, Prog.bind_ret, Prog.pure_eq_ret]
  iintro ⟨#HR, #Hlev, HO, Ha, ⟨Hd0, Hd1, Hd2, Hd3⟩, ⟨Ht0, Ht1, Ht2, Ht3⟩, ⟨Hc0, Hc1, Hc2, Hc3⟩, ⟨Hp0, Hp1, Hp2, Hp3⟩, ⟨Hq0, Hq1, Hq2, Hq3⟩⟩ Hk
  iapply (put_a m c c (k0_off1_eq c) hv) $$ Ha
  iintro Ha
  ihave Ha := tile_split c c (AM m) $$ Ha
  icases Ha with ⟨Hs0, Hs1, Hs2, Hs3⟩
  iapply (step_tile_send m K c 0 (cond5 c) (fun _ => rfl) (fun _ => sem2 0 rfl inb_S4_S1_0 squeezes_S1_S_)
    (fun h => sem3 c (k0_off2_eq c) (k0_off2_inb c h) squeezes_S1_S_) (k0_off3_eq c)) $$ [Hd0 Hs0 HO Ht0]
  · isplitr; · iexact HR
    isplitl [Hd0]; · iexact Hd0
    isplitl [Hs0]; · iexact Hs0
    isplitl [HO]; · iexact HO
    iexact Ht0
  iintro ⟨Hs0, HO⟩
  iapply (step_tile_send m K c 1 (cond6 c) (fun _ => rfl) (fun _ => sem2 1 rfl inb_S4_S1_1 squeezes_S1_S_)
    (fun h => sem3 c (k0_off4_eq c) (k0_off4_inb c h) squeezes_S1_S_) (k0_off5_eq c)) $$ [Hd1 Hs1 HO Ht1]
  · isplitr; · iexact HR
    isplitl [Hd1]; · iexact Hd1
    isplitl [Hs1]; · iexact Hs1
    isplitl [HO]; · iexact HO
    iexact Ht1
  iintro ⟨Hs1, HO⟩
  iapply (step_tile_send m K c 2 (cond7 c) (fun _ => rfl) (fun _ => sem2 2 rfl inb_S4_S1_2 squeezes_S1_S_)
    (fun h => sem3 c (k0_off6_eq c) (k0_off6_inb c h) squeezes_S1_S_) (k0_off7_eq c)) $$ [Hd2 Hs2 HO Ht2]
  · isplitr; · iexact HR
    isplitl [Hd2]; · iexact Hd2
    isplitl [Hs2]; · iexact Hs2
    isplitl [HO]; · iexact HO
    iexact Ht2
  iintro ⟨Hs2, HO⟩
  iapply (step_tile_send m K c 3 (cond8 c) (fun _ => rfl) (fun _ => sem2 3 rfl inb_S4_S1_3 squeezes_S1_S_)
    (fun h => sem3 c (k0_off8_eq c) (k0_off8_inb c h) squeezes_S1_S_) (k0_off9_eq c)) $$ [Hd3 Hs3 HO Ht3]
  · isplitr; · iexact HR
    isplitl [Hd3]; · iexact Hd3
    isplitl [Hs3]; · iexact Hs3
    isplitl [HO]; · iexact HO
    iexact Ht3
  iintro ⟨Hs3, HO⟩
  iapply (step_tile_wait m K c 0 (cond9 c) (fun _ => sem2 0 rfl inb_S4_S1_0 squeezes_S1_S_)
    (fun _ => sem3 0 rfl inb_S4_S1_0 squeezes_S1_S_)) $$ [Hs0 Hc0 HO Hp0 Hq0]
  · isplitr; · iexact HR
    isplitr; · iexact Hlev
    isplitl [Hs0]; · iexact Hs0
    isplitl [Hc0]; · iexact Hc0
    isplitl [HO]; · iexact HO
    isplitl [Hp0]; · iexact Hp0
    iexact Hq0
  iintro ⟨Hp0, Hq0, Hs0, Hc0, HO⟩
  iapply (step_tile_wait m K c 1 (cond10 c) (fun _ => sem2 1 rfl inb_S4_S1_1 squeezes_S1_S_)
    (fun _ => sem3 1 rfl inb_S4_S1_1 squeezes_S1_S_)) $$ [Hs1 Hc1 HO Hp1 Hq1]
  · isplitr; · iexact HR
    isplitr; · iexact Hlev
    isplitl [Hs1]; · iexact Hs1
    isplitl [Hc1]; · iexact Hc1
    isplitl [HO]; · iexact HO
    isplitl [Hp1]; · iexact Hp1
    iexact Hq1
  iintro ⟨Hp1, Hq1, Hs1, Hc1, HO⟩
  iapply (step_tile_wait m K c 2 (cond11 c) (fun _ => sem2 2 rfl inb_S4_S1_2 squeezes_S1_S_)
    (fun _ => sem3 2 rfl inb_S4_S1_2 squeezes_S1_S_)) $$ [Hs2 Hc2 HO Hp2 Hq2]
  · isplitr; · iexact HR
    isplitr; · iexact Hlev
    isplitl [Hs2]; · iexact Hs2
    isplitl [Hc2]; · iexact Hc2
    isplitl [HO]; · iexact HO
    isplitl [Hp2]; · iexact Hp2
    iexact Hq2
  iintro ⟨Hp2, Hq2, Hs2, Hc2, HO⟩
  iapply (step_tile_wait m K c 3 (cond12 c) (fun _ => sem2 3 rfl inb_S4_S1_3 squeezes_S1_S_)
    (fun _ => sem3 3 rfl inb_S4_S1_3 squeezes_S1_S_)) $$ [Hs3 Hc3 HO Hp3 Hq3]
  · isplitr; · iexact HR
    isplitr; · iexact Hlev
    isplitl [Hs3]; · iexact Hs3
    isplitl [Hc3]; · iexact Hc3
    isplitl [HO]; · iexact HO
    isplitl [Hp3]; · iexact Hp3
    iexact Hq3
  iintro ⟨Hp3, Hq3, Hs3, Hc3, HO⟩
  ihave Ha := tile_join c c (AM m) $$ [Hs0 Hs1 Hs2 Hs3]
  · isplitl [Hs0]; · iexact Hs0
    isplitl [Hs1]; · iexact Hs1
    isplitl [Hs2]; · iexact Hs2
    iexact Hs3
  ihave Ha := tiles_whole m c $$ [Ha Hc0 Hc1 Hc2 Hc3]
  · isplitl [Ha]; · iexact Ha
    isplitl [Hc0]; · iexact Hc0
    isplitl [Hc1]; · iexact Hc1
    isplitl [Hc2]; · iexact Hc2
    iexact Hc3
  iapply (get_a m c (by funext x; fin_cases x <;> rfl)) $$ Ha
  iintro Ha
  iapply run_ret
  iapply Hk
  isplitl [HO]; · iexact HO
  isplitl [Ha]; · iexact Ha
  isplitl [Hp0 Hp1 Hp2 Hp3]
  · isplitl [Hp0]; · iexact Hp0
    isplitl [Hp1]; · iexact Hp1
    isplitl [Hp2]; · iexact Hp2
    iexact Hp3
  · isplitl [Hq0]; · iexact Hq0
    isplitl [Hq1]; · iexact Hq1
    isplitl [Hq2]; · iexact Hq2
    iexact Hq3

end Cert.Proof

end
-- ==== Proof.Blocks.lean ====
module

public import proofs.«01_k».proof.Proof.Tiles

/-!
# The exchange of blocks: each is quantised and sent
-/

@[expose] public section

noncomputable section

namespace Cert.Proof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)
variable (K : Dev nD × Ix17 → ℕ)

theorem cond13 (c : Dev nD) : k0_cond13 c = 1#1 ↔ (0 : Dev nD) ≠ c := by revert c; decide
theorem cond14 (c : Dev nD) : k0_cond14 c = 1#1 ↔ (1 : Dev nD) ≠ c := by revert c; decide
theorem cond15 (c : Dev nD) : k0_cond15 c = 1#1 ↔ (2 : Dev nD) ≠ c := by revert c; decide
theorem cond16 (c : Dev nD) : k0_cond16 c = 1#1 ↔ (3 : Dev nD) ≠ c := by revert c; decide

/-- Block `p` of device `c` has gone to its peer, or is its own and stays. -/
abbrev gone (c p : Dev nD) : sProp 𝕄 := if p = c then qPts c p (QB m c) else cred (tallyAt (xCell 0 c p) () (NX 0))
/-- What the transfer of block `p` uses up: the peer's slot for it, and the right to signal at both ends. -/
abbrev going (c p : Dev nD) : sProp 𝕄 :=
  iprop(peer c p iprop(∃ f, rPts p c f) ∗ peer c p iprop(dutyTok ER (xCell 0 c p) 0 p ∗ dutyTok ER (xCell 1 p c) 0 c))

theorem part6 (c : Dev nD) (v2 : BitVec 32) (Kt : _ → sProp 𝕄) :
  iprop(records m K ∗ owing c 8 ∗ yPts c 0 (YB m c) ∗ yPts c 1 (YB m c) ∗ (∃ f, qPts c 0 f) ∗ (∃ f, qPts c 1 f) ∗ going c 0)
   ⊢ iprop(((owing c 9 ∗ yPts c 0 (YB m c) ∗ yPts c 1 (YB m c) ∗ gone m c 0 ∗ qPts c 1 (QB m c))
          -∗ Kt ⟨k0_pay16 (k0_pay14 (AM m)), k0_pay17 (k0_pay14 (AM m)), Scalar.cmpi .ne v2 1#32⟩)
      -∗ run c (k0_part6 (F := F) xM (Memref.isWhole_whole _) wM (Memref.isWhole_whole _) oM (Memref.isWhole_whole _) bM (Memref.isWhole_whole _) yM (Memref.isWhole_whole _)
      qM (Memref.isWhole_whole _) rM (Memref.isWhole_whole _) aM (Memref.isWhole_whole _) cc0_scratch5 cc0_scratch6 cc0_scratch7 cc0_scratch8 cc0_scratch9 c v2 (k0_pay14 (AM m))) Kt) := by
  rw [k0_part6_eq_skeleton]; unfold k0_part6_skel
  simp -zeta only [Prog.lift, Prog.bind_op, Prog.bind_ret, Prog.pure_eq_ret]
  iintro ⟨#HR, HO, Hy0, Hy1, Hq0, Hq1, ⟨Hd, Ht⟩⟩ Hk
  iapply (get_y m c 0 rfl) $$ Hy0
  iintro Hy0
  iapply (put_q m c 0 rfl rfl) $$ Hq0
  iintro Hq0
  iapply (step_block_send m K c 0 (cond13 c) (fun _ => rfl) (fun _ => sem0 0 rfl inb_S4_S1_0 squeezes_S1_S_)
    (fun h => sem1 c (k0_off14_eq c) (k0_off14_inb c h) squeezes_S1_S_) rfl (k0_off15_eq c)) $$ [Hd Hq0 HO Ht]
  · isplitr; · iexact HR
    isplitl [Hd]; · iexact Hd
    isplitl [Hq0]; · iexact Hq0
    isplitl [HO]; · iexact HO
    iexact Ht
  iintro ⟨Hq0, HO⟩
  iapply (get_y m c 1 rfl) $$ Hy1
  iintro Hy1
  iapply (put_q m c 1 rfl rfl) $$ Hq1
  iintro Hq1
  iapply run_ret
  iapply Hk
  isplitl [HO]; · iexact HO
  isplitl [Hy0]; · iexact Hy0
  isplitl [Hy1]; · iexact Hy1
  isplitl [Hq0]; · iexact Hq0
  iexact Hq1

theorem part7 (c : Dev nD) (v2 : BitVec 32) (v180 : BitVec 1) (Kt : _ → sProp 𝕄) :
  iprop(records m K ∗ owing c 9 ∗ yPts c 2 (YB m c) ∗ yPts c 3 (YB m c) ∗ qPts c 1 (QB m c) ∗ (∃ f, qPts c 2 f) ∗ (∃ f, qPts c 3 f)
      ∗ going c 1 ∗ going c 2 ∗ going c 3)
   ⊢ iprop(((owing c 12 ∗ yPts c 2 (YB m c) ∗ yPts c 3 (YB m c) ∗ gone m c 1 ∗ gone m c 2 ∗ gone m c 3) -∗ Kt ⟨⟩)
      -∗ run c (k0_part7 (F := F) xM (Memref.isWhole_whole _) wM (Memref.isWhole_whole _) oM (Memref.isWhole_whole _) bM (Memref.isWhole_whole _) yM (Memref.isWhole_whole _)
      qM (Memref.isWhole_whole _) rM (Memref.isWhole_whole _) aM (Memref.isWhole_whole _) cc0_scratch5 cc0_scratch6 cc0_scratch7 cc0_scratch8 cc0_scratch9 c v2 (k0_pay17 (k0_pay14 (AM m))) v180) Kt) := by
  rw [k0_part7_eq_skeleton]; unfold k0_part7_skel
  simp -zeta only [Prog.lift, Prog.bind_op, Prog.bind_ret, Prog.pure_eq_ret]
  iintro ⟨#HR, HO, Hy2, Hy3, Hq1, Hq2, Hq3, ⟨Hd1, Ht1⟩, ⟨Hd2, Ht2⟩, ⟨Hd3, Ht3⟩⟩ Hk
  iapply (step_block_send m K c 1 (cond14 c) (fun _ => rfl) (fun _ => sem0 1 rfl inb_S4_S1_1 squeezes_S1_S_)
    (fun h => sem1 c (k0_off16_eq c) (k0_off16_inb c h) squeezes_S1_S_) rfl (k0_off17_eq c)) $$ [Hd1 Hq1 HO Ht1]
  · isplitr; · iexact HR
    isplitl [Hd1]; · iexact Hd1
    isplitl [Hq1]; · iexact Hq1
    isplitl [HO]; · iexact HO
    iexact Ht1
  iintro ⟨Hq1, HO⟩
  iapply (get_y m c 2 rfl) $$ Hy2
  iintro Hy2
  iapply (put_q m c 2 rfl rfl) $$ Hq2
  iintro Hq2
  iapply (step_block_send m K c 2 (cond15 c) (fun _ => rfl) (fun _ => sem0 2 rfl inb_S4_S1_2 squeezes_S1_S_)
    (fun h => sem1 c (k0_off18_eq c) (k0_off18_inb c h) squeezes_S1_S_) rfl (k0_off19_eq c)) $$ [Hd2 Hq2 HO Ht2]
  · isplitr; · iexact HR
    isplitl [Hd2]; · iexact Hd2
    isplitl [Hq2]; · iexact Hq2
    isplitl [HO]; · iexact HO
    iexact Ht2
  iintro ⟨Hq2, HO⟩
  iapply (get_y m c 3 rfl) $$ Hy3
  iintro Hy3
  iapply (put_q m c 3 rfl rfl) $$ Hq3
  iintro Hq3
  iapply (step_block_send m K c 3 (cond16 c) (fun _ => rfl) (fun _ => sem0 3 rfl inb_S4_S1_3 squeezes_S1_S_)
    (fun h => sem1 c (k0_off20_eq c) (k0_off20_inb c h) squeezes_S1_S_) rfl (k0_off21_eq c)) $$ [Hd3 Hq3 HO Ht3]
  · isplitr; · iexact HR
    isplitl [Hd3]; · iexact Hd3
    isplitl [Hq3]; · iexact Hq3
    isplitl [HO]; · iexact HO
    iexact Ht3
  iintro ⟨Hq3, HO⟩
  iapply run_ret
  iapply Hk
  isplitl [HO]; · iexact HO
  isplitl [Hy2]; · iexact Hy2
  isplitl [Hy3]; · iexact Hy3
  isplitl [Hq1]; · iexact Hq1
  isplitl [Hq2]; · iexact Hq2
  iexact Hq3

end Cert.Proof

end
-- ==== Proof.Collect.lean ====
module

public import proofs.«01_k».proof.Proof.Blocks

/-!
# The blocks arrive and are scaled back
-/

@[expose] public section

noncomputable section

namespace Cert.Proof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)
variable (K : Dev nD × Ix17 → ℕ)

/-- Device `c`'s place in the ring of four, as the program computes it. -/
abbrev place (c : Dev nD) : BitVec 32 := Scalar.remsi (Scalar.divsi c.word 1#32) 4#32

theorem cond17 (c : Dev nD) : Scalar.cmpi .ne (Scalar.extui (Scalar.cmpi .ne (place c) 0#32) : BitVec 32) 0#32 = 1#1 ↔ (0 : Dev nD) ≠ c := by
  revert c; decide
theorem cond18 (c : Dev nD) : Scalar.cmpi .ne (Scalar.extui (Scalar.cmpi .ne (place c) 1#32) : BitVec 32) 0#32 = 1#1 ↔ (1 : Dev nD) ≠ c := by
  revert c; decide
theorem cond19 (c : Dev nD) : Scalar.cmpi .ne (Scalar.extui (Scalar.cmpi .ne (place c) 2#32) : BitVec 32) 0#32 = 1#1 ↔ (2 : Dev nD) ≠ c := by
  revert c; decide
theorem cond20 (c : Dev nD) : Scalar.cmpi .ne (Scalar.extui (Scalar.cmpi .ne (place c) 3#32) : BitVec 32) 0#32 = 1#1 ↔ (3 : Dev nD) ≠ c := by
  revert c; decide
theorem cond21 (c : Dev nD) : k0_cond21 c = 1#1 ↔ (0 : Dev nD) ≠ c := by revert c; decide
theorem cond22 (c : Dev nD) : k0_cond22 c = 1#1 ↔ (1 : Dev nD) ≠ c := by revert c; decide
theorem cond23 (c : Dev nD) : k0_cond23 c = 1#1 ↔ (2 : Dev nD) ≠ c := by revert c; decide
theorem cond24 (c : Dev nD) : k0_cond24 c = 1#1 ↔ (3 : Dev nD) ≠ c := by revert c; decide

/-- One's own block, out of the four that are gone or stay, -/
theorem own_gone (c : Dev nD) : all (gone m c) ⊢ iprop(qPts c c (QB m c) ∗ (qPts c c (QB m c) -∗ all (gone m c))) := by
  have e := pick c (fun p => qPts c p (QB m c)) fun p => (cred (tallyAt (xCell 0 c p) () (NX 0)) : sProp 𝕄)
  rw [← all_eq]
  show bigSep Finset.univ (fun p => if p = c then qPts c p (QB m c) else (cred (tallyAt (xCell 0 c p) () (NX 0)) : sProp 𝕄)) ⊢
    iprop(_ ∗ (_ -∗ bigSep Finset.univ (fun p => if p = c then qPts c p (QB m c) else (cred (tallyAt (xCell 0 c p) () (NX 0)) : sProp 𝕄))))
  rw [e]
  iintro ⟨H, Hr⟩
  isplitl [H]; · iexact H
  iintro H
  isplitl [H]; · iexact H
  iexact Hr

/-- and one's own rows of the result, out of the four. -/
theorem own_out (c : Dev nD) : (all fun p => iprop(∃ f, oPts c p f))
    ⊢ iprop((∃ f, oPts c c f) ∗ (oPts c c (outAt m c) -∗ all fun p => if p = c then oPts c p (outAt m c) else iprop(∃ f, oPts c p f))) := by
  have e := pick c (fun p => iprop(∃ f, oPts (F := F) c p f)) fun p => iprop(∃ f, oPts c p f)
  simp only [ite_self] at e
  rw [← all_eq, ← all_eq, e, pick c (fun p => oPts c p (outAt m c)) fun p => iprop(∃ f, oPts c p f)]
  iintro ⟨H, Hr⟩
  isplitl [H]; · iexact H
  iintro H
  isplitl [H]; · iexact H
  iexact Hr

/-- The four blocks of rows are the result. -/
theorem out_whole (c : Dev nD) :
    (all fun p => oPts c p (outAt m c)) ⊢ (((c : Thread nD τ).loc cc0_stg1_0) ↦{fullShare} (outAt m c) : sProp 𝕄) := by
  rw [← all_eq, Ring.pointsTo_blocks (fun p : Fin 4 => rows (n := 4096) (b := 512) 1024 p.val) rows_disj (rows_cover (by decide) (by decide))]
  exact Entails.refl _

/-- The room for them. -/
theorem out_rows (c : Dev nD) (f) :
    (((c : Thread nD τ).loc cc0_stg1_0) ↦{fullShare} f : sProp 𝕄) ⊢ all fun p => iprop(∃ f, oPts c p f) := by
  rw [← all_eq, Ring.pointsTo_blocks (fun p : Fin 4 => rows (n := 4096) (b := 512) 1024 p.val) rows_disj (rows_cover (by decide) (by decide))]
  refine bigSep_mono fun p _ => ?_
  exact (show (oPts c p f : sProp 𝕄) ⊢ iprop(∃ f, oPts c p f) from by iintro H; iexists f; iexact H)

theorem part8 (c : Dev nD) (Kt : _ → sProp 𝕄) :
  iprop(records m K ∗ levAts L lv ∗ owing c 12 ∗ all (gone m c) ∗ all (fun p => iprop(∃ f, oPts c p f))
      ∗ all (fun p => peer c p (cred (tallyAt (xCell 1 c p) () (NX 1))))
      ∗ all (fun p => atPos ER (xCell 0 c p) 0 ∅ 0) ∗ all (fun p => atPos ER (xCell 1 c p) 0 ∅ 0))
   ⊢ iprop(((owing c 12 ∗ (((c : Thread nD τ).loc cc0_stg1_0) ↦{fullShare} (outAt m c)) ∗ all (fun p => qPts c p (QB m c))
          ∗ all (fun p => peer c p (rPts c p (RB m c))) ∗ all (fun p => semVal (xCell 0 c p) 0) ∗ all (fun p => semVal (xCell 1 c p) 0)) -∗ Kt ⟨⟩)
      -∗ run c (k0_part8 (F := F) xM (Memref.isWhole_whole _) wM (Memref.isWhole_whole _) oM (Memref.isWhole_whole _) bM (Memref.isWhole_whole _) yM (Memref.isWhole_whole _)
      qM (Memref.isWhole_whole _) rM (Memref.isWhole_whole _) aM (Memref.isWhole_whole _) cc0_scratch5 cc0_scratch6 cc0_scratch7 cc0_scratch8 cc0_scratch9 c (place c) (k0_pay16 (k0_pay14 (AM m)))) Kt) := by
  rw [k0_part8_eq_skeleton]; unfold k0_part8_skel
  simp -zeta only [Prog.lift, Prog.bind_op, Prog.bind_ret, Prog.pure_eq_ret]
  iintro ⟨#HR, #Hlev, HO, Hq, Ho, ⟨Hc0, Hc1, Hc2, Hc3⟩, ⟨Hp0, Hp1, Hp2, Hp3⟩, ⟨Hr0, Hr1, Hr2, Hr3⟩⟩ Hk
  ihave Hq := own_gone m c $$ Hq
  icases Hq with ⟨Hqc, Hq⟩
  ihave Ho := own_out m c $$ Ho
  icases Ho with ⟨Hoc, Ho⟩
  iapply (get_q m c c (k0_off22_eq c)) $$ Hqc
  iintro Hqc
  iapply (put_o m c c (k0_off23_eq c) rfl) $$ Hoc
  iintro Hoc
  ihave Hq := Hq $$ Hqc
  icases Hq with ⟨Hq0, Hq1, Hq2, Hq3⟩
  ihave Ho := Ho $$ Hoc
  icases Ho with ⟨Ho0, Ho1, Ho2, Ho3⟩
  iapply (step_block_recv m K c 0 (cond17 c) (fun _ => sem1 0 rfl inb_S4_S1_0 squeezes_S1_S_) rfl rfl
    (o := ![0, 0, 0]) (w := k0_pay23 (k0_pay16 (k0_pay14 (AM m)))) rfl) $$ [Hc0 HO Hr0 Ho0]
  · isplitr; · iexact HR
    isplitr; · iexact Hlev
    isplitl [Hc0]; · iexact Hc0
    isplitl [HO]; · iexact HO
    isplitl [Hr0]; · iexact Hr0
    iexact Ho0
  iintro ⟨Hr0, Ho0, Hc0, HO⟩
  iapply (step_block_recv m K c 1 (cond18 c) (fun _ => sem1 1 rfl inb_S4_S1_1 squeezes_S1_S_) rfl rfl
    (o := ![1, 0, 0]) (w := k0_pay24 (k0_pay16 (k0_pay14 (AM m)))) rfl) $$ [Hc1 HO Hr1 Ho1]
  · isplitr; · iexact HR
    isplitr; · iexact Hlev
    isplitl [Hc1]; · iexact Hc1
    isplitl [HO]; · iexact HO
    isplitl [Hr1]; · iexact Hr1
    iexact Ho1
  iintro ⟨Hr1, Ho1, Hc1, HO⟩
  iapply (step_block_recv m K c 2 (cond19 c) (fun _ => sem1 2 rfl inb_S4_S1_2 squeezes_S1_S_) rfl rfl
    (o := ![2, 0, 0]) (w := k0_pay25 (k0_pay16 (k0_pay14 (AM m)))) rfl) $$ [Hc2 HO Hr2 Ho2]
  · isplitr; · iexact HR
    isplitr; · iexact Hlev
    isplitl [Hc2]; · iexact Hc2
    isplitl [HO]; · iexact HO
    isplitl [Hr2]; · iexact Hr2
    iexact Ho2
  iintro ⟨Hr2, Ho2, Hc2, HO⟩
  iapply (step_block_recv m K c 3 (cond20 c) (fun _ => sem1 3 rfl inb_S4_S1_3 squeezes_S1_S_) rfl rfl
    (o := ![3, 0, 0]) (w := k0_pay26 (k0_pay16 (k0_pay14 (AM m)))) rfl) $$ [Hc3 HO Hr3 Ho3]
  · isplitr; · iexact HR
    isplitr; · iexact Hlev
    isplitl [Hc3]; · iexact Hc3
    isplitl [HO]; · iexact HO
    isplitl [Hr3]; · iexact Hr3
    iexact Ho3
  iintro ⟨Hr3, Ho3, Hc3, HO⟩
  iapply (step_block_sent m K c 0 (cond21 c) (fun _ => sem0 0 rfl inb_S4_S1_0 squeezes_S1_S_) (o := ![0, 0, 0])) $$ [Hq0 HO Hp0]
  · isplitr; · iexact HR
    isplitr; · iexact Hlev
    isplitl [Hq0]; · iexact Hq0
    isplitl [HO]; · iexact HO
    iexact Hp0
  iintro ⟨Hp0, Hq0, HO⟩
  iapply (step_block_sent m K c 1 (cond22 c) (fun _ => sem0 1 rfl inb_S4_S1_1 squeezes_S1_S_) (o := ![1, 0, 0])) $$ [Hq1 HO Hp1]
  · isplitr; · iexact HR
    isplitr; · iexact Hlev
    isplitl [Hq1]; · iexact Hq1
    isplitl [HO]; · iexact HO
    iexact Hp1
  iintro ⟨Hp1, Hq1, HO⟩
  iapply (step_block_sent m K c 2 (cond23 c) (fun _ => sem0 2 rfl inb_S4_S1_2 squeezes_S1_S_) (o := ![2, 0, 0])) $$ [Hq2 HO Hp2]
  · isplitr; · iexact HR
    isplitr; · iexact Hlev
    isplitl [Hq2]; · iexact Hq2
    isplitl [HO]; · iexact HO
    iexact Hp2
  iintro ⟨Hp2, Hq2, HO⟩
  iapply (step_block_sent m K c 3 (cond24 c) (fun _ => sem0 3 rfl inb_S4_S1_3 squeezes_S1_S_) (o := ![3, 0, 0])) $$ [Hq3 HO Hp3]
  · isplitr; · iexact HR
    isplitr; · iexact Hlev
    isplitl [Hq3]; · iexact Hq3
    isplitl [HO]; · iexact HO
    iexact Hp3
  iintro ⟨Hp3, Hq3, HO⟩
  ihave Ho := out_whole m c $$ [Ho0 Ho1 Ho2 Ho3]
  · isplitl [Ho0]; · iexact Ho0
    isplitl [Ho1]; · iexact Ho1
    isplitl [Ho2]; · iexact Ho2
    iexact Ho3
  iapply run_ret
  iapply Hk
  isplitl [HO]; · iexact HO
  isplitl [Ho]; · iexact Ho
  isplitl [Hq0 Hq1 Hq2 Hq3]
  · isplitl [Hq0]; · iexact Hq0
    isplitl [Hq1]; · iexact Hq1
    isplitl [Hq2]; · iexact Hq2
    iexact Hq3
  isplitl [Hc0 Hc1 Hc2 Hc3]
  · isplitl [Hc0]; · iexact Hc0
    isplitl [Hc1]; · iexact Hc1
    isplitl [Hc2]; · iexact Hc2
    iexact Hc3
  isplitl [Hp0 Hp1 Hp2 Hp3]
  · isplitl [Hp0]; · iexact Hp0
    isplitl [Hp1]; · iexact Hp1
    isplitl [Hp2]; · iexact Hp2
    iexact Hp3
  · isplitl [Hr0]; · iexact Hr0
    isplitl [Hr1]; · iexact Hr1
    isplitl [Hr2]; · iexact Hr2
    iexact Hr3

end Cert.Proof

end
-- ==== Proof.Body.lean ====
module

public import proofs.«01_k».proof.Proof.Collect

/-!
# The whole body of the kernel on one device
-/

@[expose] public section

noncomputable section

namespace Cert.Proof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)
variable (K : Dev nD × Ix17 → ℕ)

/-! ## Pieces of the buffers -/

section Pieces
variable {ℓ : Loc nD τ sig} {n : ℕ} (I : Fin n → Finset (Idx ℓ)) (hd : ∀ b b', b ≠ b' → Disjoint (I b) (I b'))
  (hc : Finset.univ.biUnion I = Finset.univ)

omit [FloatOps F] in
include hd hc in
theorem cut : (iprop(∃ f, ℓ ↦{fullShare} f) : sProp 𝕄) ⊢ bigSep Finset.univ fun p => iprop(∃ f, ℓ ↦[I p]{fullShare} f) := by
  iintro ⟨%f, H⟩
  iapply ((Entails.of_eq (Ring.pointsTo_blocks I hd hc f)).trans (bigSep_mono fun p _ =>
    (show (ℓ ↦[I p]{fullShare} f : sProp 𝕄) ⊢ iprop(∃ f, ℓ ↦[I p]{fullShare} f) from by iintro H; iexists f; iexact H)))
  iexact H

omit [FloatOps F] in
include hd hc in
theorem join (f : (p : Fin n) → Buf (Elt F) ℓ) (f₀ : Buf (Elt F) ℓ) :
    (bigSep Finset.univ fun p => (ℓ ↦[I p]{fullShare} f p : sProp 𝕄)) ⊢ iprop(∃ f, ℓ ↦{fullShare} f) :=
  Ring.pointsTo_blocks_join I hd hc f f₀
end Pieces

omit [FloatOps F] in
theorem two (Φ : Fin 2 → sProp 𝕄) : bigSep Finset.univ Φ = iprop(Φ 0 ∗ Φ 1) :=
  bigSep_univ_eq_bigSepL [(0 : Fin 2), 1] (by decide) (by decide) Φ

/-! ## What each device is given, and what it leaves -/

variable (c : Dev nD)

abbrev some0 : sProp 𝕄 := iprop(∃ f, ((c : Thread nD τ).loc cc0_scratch0) ↦{fullShare} f)
abbrev some1 : sProp 𝕄 := iprop(∃ f, ((c : Thread nD τ).loc cc0_scratch1) ↦{fullShare} f)
abbrev some2 : sProp 𝕄 := iprop(∃ f, ((c : Thread nD τ).loc cc0_scratch2) ↦{fullShare} f)
abbrev some3 : sProp 𝕄 := iprop(∃ f, ((c : Thread nD τ).loc cc0_scratch3) ↦{fullShare} f)
abbrev some4 : sProp 𝕄 := iprop(∃ f, ((c : Thread nD τ).loc cc0_scratch4) ↦{fullShare} f)
/-- Device `c`'s `w`. -/
abbrev wWhole : sProp 𝕄 := ((c : Thread nD τ).loc main_arg1) ↦{fullShare} (m ((c : Thread nD τ).loc main_arg1))

/-- Tokens for the barriers' units device `c` sends. -/
abbrev barToks : sProp 𝕄 := all fun p => peer c p (dutyTok ER (barCell p) 0 c)
/-- Tokens for the transfers device `c` starts: of tiles, -/
abbrev tileToks : sProp 𝕄 := all fun p => peer c p iprop(dutyTok ER (xCell 2 c p) 0 p ∗ dutyTok ER (xCell 3 p c) 0 c)
/-- and of blocks. -/
abbrev blockToks : sProp 𝕄 := all fun p => peer c p iprop(dutyTok ER (xCell 0 c p) 0 p ∗ dutyTok ER (xCell 1 p c) 0 c)
/-- Its position at its semaphores of kind `k`. -/
abbrev atKind (k : Fin 4) : sProp 𝕄 := all fun p => atPos ER (xCell k c p) 0 ∅ 0
/-- Credit for what arrives on its semaphores of kind `k`. -/
abbrev credKind (k : Fin 4) : sProp 𝕄 := all fun p => peer c p (cred (tallyAt (xCell k c p) () (NX k)))
/-- Its semaphores of kind `k` at zero. -/
abbrev zeroKind (k : Fin 4) : sProp 𝕄 := all fun p => semVal (xCell k c p) 0

/-- What a device holds of the exchange as it starts. -/
def ghost : sProp 𝕄 :=
  iprop(records m K ∗ levAts L lv ∗ barToks c ∗ tileToks c ∗ blockToks c ∗ cred (tallyAt (barCell c) () 3) ∗ credKind c 3 ∗ credKind c 1
    ∗ atPos ER (barCell c) 0 ∅ 0 ∗ atKind c 0 ∗ atKind c 1 ∗ atKind c 2 ∗ atKind c 3)

/-- The semaphores at the end: all at zero. -/
def zeros : sProp 𝕄 :=
  iprop(semVal (barCell c) 0 ∗ zeroKind c 0 ∗ zeroKind c 1 ∗ zeroKind c 2 ∗ zeroKind c 3
    ∗ semVal ((c : Thread nD τ), .dma (wq 0)) 0 ∗ semVal ((c : Thread nD τ), .dma (wq 1)) 0)

omit [FloatOps F] in
theorem peer_sep (p : Dev nD) (R S : sProp 𝕄) : peer c p iprop(R ∗ S) = iprop(peer c p R ∗ peer c p S) := by
  by_cases h : p = c
  · subst h; rw [peer_self, peer_self, peer_self]; exact (equiv_iff.mp (BI.emp_sep (M := 𝕄))).symm
  · rw [peer_ne h, peer_ne h, peer_ne h]

/-- The peers' slots, from the barrier. -/
theorem slots_of_bar : (bigSep Finset.univ fun p => peer c p (barPay (F := F) c p))
    ⊢ (iprop(all (fun p => peer c p iprop(∃ f, aPts (F := F) p c fullShare f)) ∗ all fun p => peer c p iprop(∃ f, rPts (F := F) p c f)) : sProp 𝕄) := by
  rw [← all_eq, ← all_eq, ← bigSep_sep']
  exact bigSep_mono fun p _ => Entails.of_eq ((congrArg (peer c p) (by unfold barPay; rfl)).trans (peer_sep c p _ _))

/-- One's own slots, kept. -/
theorem slots_own : (all fun p => if p = c then iprop((∃ f, aPts (F := F) c c fullShare f) ∗ ∃ f, rPts (F := F) c c f) else iprop(emp))
    ⊢ (iprop((∃ f, aPts c c fullShare f) ∗ ∃ f, rPts c c f) : sProp 𝕄) := by
  rw [← all_eq, pick c (fun _ => iprop((∃ f, aPts c c fullShare f) ∗ ∃ f, rPts c c f)) fun _ => iprop(emp)]
  iintro ⟨H, -⟩
  iexact H

/-- The slots of the receive buffer together again. -/
theorem slots_back (m : (ℓ : Loc nD τ sig) → Buf (Elt F) ℓ) : iprop((∃ f, rPts c c f) ∗ all fun p => peer c p (rPts c p (RB m c))) ⊢ some3 c := by
  iintro ⟨⟨%f, H⟩, Hr⟩
  iapply (join (ℓ := (c : Thread nD τ).loc cc0_scratch3) (fun p : Fin 4 => lead (n := 4) (a := 1024) (b := 512) p.val) lead_disj lead_cover
    (fun p => if p = c then f else RB m c) f)
  iapply (show iprop(rPts c c f ∗ all fun p => peer c p (rPts c p (RB m c)))
      ⊢ (bigSep Finset.univ fun p : Dev nD => ((c : Thread nD τ).loc cc0_scratch3) ↦[lead (n := 4) (a := 1024) (b := 512) p.val]{fullShare} (if p = c then f else RB m c) : sProp 𝕄) from by
    rw [← all_eq, ← pick c (fun p => rPts c p f) fun p => rPts c p (RB m c)]
    exact Entails.of_eq (bigSep_congr fun p _ => by
      by_cases h : p = c
      · rw [if_pos h, if_pos h]; rfl
      · rw [if_neg h, if_neg h]; rfl))
  isplitl [H]; · iexact H
  iexact Hr

/-- The four column chunks of `w` make it up. -/
theorem w_whole (m : (ℓ : Loc nD τ sig) → Buf (Elt F) ℓ) : wWhole m c = all (wPts m c) := by
  rw [← all_eq]
  unfold wWhole wPts
  exact Ring.pointsTo_blocks (ℓ := (c : Thread nD τ).loc main_arg1) (fun j : Fin 4 => cols (n := 4096) (b := 2048) 512 j.val)
    cols_disj (cols_cover (by decide)) (m ((c : Thread nD τ).loc main_arg1))

/-- The slots a device fills by itself, together again. -/
theorem b_whole (f g : Buf (Elt F) ((c : Thread nD τ).loc cc0_scratch0)) : iprop(bPts c 0 f ∗ bPts c 1 g) ⊢ some0 c :=
  (Entails.of_eq (two (fun b : Fin 2 => bPts c b (if b = 0 then f else g))).symm).trans
    (join (ℓ := (c : Thread nD τ).loc cc0_scratch0) (fun b : Fin 2 => lead (n := 2) (a := 4096) (b := 512) b.val) lead_disj lead_cover
      (fun b => if b = 0 then f else g) f)
theorem y_whole (f : Buf (Elt F) ((c : Thread nD τ).loc cc0_scratch1)) : all (fun p => yPts c p f) ⊢ some1 c :=
  (Entails.of_eq (all_eq (fun p => yPts c p f)).symm).trans
    (join (ℓ := (c : Thread nD τ).loc cc0_scratch1) (fun b : Fin 4 => lead (n := 4) (a := 1024) (b := 512) b.val) lead_disj lead_cover (fun _ => f) f)
theorem q_whole (f : Buf (Elt F) ((c : Thread nD τ).loc cc0_scratch2)) : all (fun p => qPts c p f) ⊢ some2 c :=
  (Entails.of_eq (all_eq (fun p => qPts c p f)).symm).trans
    (join (ℓ := (c : Thread nD τ).loc cc0_scratch2) (fun b : Fin 4 => lead (n := 4) (a := 1024) (b := 512) b.val) lead_disj lead_cover (fun _ => f) f)

theorem run_bind {α β : Type} (p : Prog (TpuEff nD τ sig (Elt F) Λ₀ .tc) α) (k : α → Prog (TpuEff nD τ sig (Elt F) Λ₀ .tc) β) (Q : β → sProp 𝕄) :
    run c p (fun a => run c (k a) Q) ⊢ run c (p >>= k) Q := by
  rw [run, run, wp_bind]

/-! ## The body -/

set_option maxHeartbeats 1000000 in
theorem body :
  iprop(ghost m K c ∗ owing c 0 ∗ xPts m c ∗ (∃ f, ((c : Thread nD τ).loc cc0_stg1_0) ↦{fullShare} f) ∗ wWhole m c
      ∗ (some0 c ∗ some1 c ∗ some2 c ∗ some3 c ∗ some4 c)
      ∗ semVal ((c : Thread nD τ), .dma (wq 0)) 0 ∗ semVal ((c : Thread nD τ), .dma (wq 1)) 0)
   ⊢ run c (cc0_body (F := F) xM (Memref.isWhole_whole _) wM (Memref.isWhole_whole _) oM (Memref.isWhole_whole _) bM (Memref.isWhole_whole _) yM (Memref.isWhole_whole _)
      qM (Memref.isWhole_whole _) rM (Memref.isWhole_whole _) aM (Memref.isWhole_whole _) cc0_scratch5 cc0_scratch6 cc0_scratch7 cc0_scratch8 cc0_scratch9)
      fun _ => iprop(owing c 12 ∗ xPts m c ∗ (((c : Thread nD τ).loc cc0_stg1_0) ↦{fullShare} (outAt m c)) ∗ wWhole m c
        ∗ (some0 c ∗ some1 c ∗ some2 c ∗ some3 c ∗ some4 c) ∗ zeros c) := by
  rw [cc0_body_eq_skeleton]; unfold cc0_body_skel ghost
  iintro ⟨⟨#HR, #Hlev, Htb, Htt, ⟨Htk0, Htk1, Htk2, Htk3⟩, Hcb, Hc3, Hc1, Hab, Ha0, Ha1, Ha2, Ha3⟩, HO, Hx, ⟨%fo, Ho⟩, Hw, ⟨H0, H1, H2, H3, H4⟩, Hv0, Hv1⟩
  ihave H0 := cut (F := F) (ℓ := (c : Thread nD τ).loc cc0_scratch0) (fun b : Fin 2 => lead (n := 2) (a := 4096) (b := 512) b.val) lead_disj lead_cover $$ H0
  ihave H0 := (Entails.of_eq (two (F := F) _)) $$ H0
  icases H0 with ⟨Hb0, Hb1⟩
  ihave H1 := cut (F := F) (ℓ := (c : Thread nD τ).loc cc0_scratch1) (fun b : Fin 4 => lead (n := 4) (a := 1024) (b := 512) b.val) lead_disj lead_cover $$ H1
  ihave H1 := (Entails.of_eq (all_eq (F := F) _)) $$ H1
  icases H1 with ⟨Hy0, Hy1, Hy2, Hy3⟩
  ihave H2 := cut (F := F) (ℓ := (c : Thread nD τ).loc cc0_scratch2) (fun b : Fin 4 => lead (n := 4) (a := 1024) (b := 512) b.val) lead_disj lead_cover $$ H2
  ihave H2 := (Entails.of_eq (all_eq (F := F) _)) $$ H2
  icases H2 with ⟨Hq0, Hq1, Hq2, Hq3⟩
  ihave H3 := cut (F := F) (ℓ := (c : Thread nD τ).loc cc0_scratch3) (fun b : Fin 4 => lead (n := 4) (a := 1024) (b := 512) b.val) lead_disj lead_cover $$ H3
  ihave H3 := (Entails.of_eq (all_eq (F := F) _)) $$ H3
  ihave H4 := cut (F := F) (ℓ := (c : Thread nD τ).loc cc0_scratch4) (fun b : Fin 4 => lead (n := 4) (a := 8) (b := 128) b.val) lead_disj lead_cover $$ H4
  ihave H4 := (Entails.of_eq (all_eq (F := F) _)) $$ H4
  ihave Hw := (Entails.of_eq (w_whole c m)) $$ Hw
  icases Hw with ⟨Hw0, Hw1, Hw2, Hw3⟩
  ihave Ho := out_rows c fo $$ Ho
  iapply run_bind
  iapply (part1 m K c _) $$ [HO Htb H4 H3 Hcb Hab Hb0 Hb1 Hw0 Hw1 Hv0 Hv1]
  · isplitr; · iexact HR
    isplitr; · iexact Hlev
    isplitl [HO]; · iexact HO
    isplitl [Htb]; · iexact Htb
    isplitl [H4]; · iexact H4
    isplitl [H3]; · iexact H3
    isplitl [Hcb]; · iexact Hcb
    isplitl [Hab]; · iexact Hab
    isplitl [Hb0]; · iexact Hb0
    isplitl [Hb1]; · iexact Hb1
    isplitl [Hw0]; · iexact Hw0
    isplitl [Hw1]; · iexact Hw1
    isplitl [Hv0]; · iexact Hv0
    iexact Hv1
  iintro ⟨HO, Hown, Hbar, Hps, Hf0, Hf1⟩
  ihave Hown := slots_own c $$ Hown
  icases Hown with ⟨Hoa, Hor⟩
  ihave Hps := slots_of_bar c $$ Hps
  icases Hps with ⟨Hpa, ⟨Hpr0, Hpr1, Hpr2, Hpr3⟩⟩
  beta_reduce
  iapply run_bind
  iapply (part2 m c _) $$ [HO Hf0 Hx Hy0 Hw2]
  · isplitr; · iexact Hlev
    isplitl [HO]; · iexact HO
    isplitl [Hf0]; · iexact Hf0
    isplitl [Hx]; · iexact Hx
    isplitl [Hy0]; · iexact Hy0
    iexact Hw2
  iintro ⟨HO, Hf0, Hw0, Hx, Hy0⟩
  beta_reduce
  iapply run_bind
  iapply (part3 m c _) $$ [HO Hf1 Hf0 Hx Hy1 Hw3]
  · isplitr; · iexact Hlev
    isplitl [HO]; · iexact HO
    isplitl [Hf1]; · iexact Hf1
    isplitl [Hf0]; · iexact Hf0
    isplitl [Hx]; · iexact Hx
    isplitl [Hy1]; · iexact Hy1
    iexact Hw3
  iintro ⟨HO, Hf1, Hb0, Hv0, Hw1, Hw2, Hx, Hy1⟩
  beta_reduce
  iapply run_bind
  iapply (part4 m c _) $$ [HO Hf1 Hb0 Hx Hy2 Hy3]
  · isplitr; · iexact Hlev
    isplitl [HO]; · iexact HO
    isplitl [Hf1]; · iexact Hf1
    isplitl [Hb0]; · iexact Hb0
    isplitl [Hx]; · iexact Hx
    isplitl [Hy2]; · iexact Hy2
    iexact Hy3
  iintro ⟨HO, Hb0, Hb1, Hv1, Hw3, Hx, Hy2, Hy3⟩
  beta_reduce
  iapply run_bind
  iapply (part5 m K c (place c) _ rfl _) $$ [HO Hoa Hpa Htt Hc3 Ha2 Ha3]
  · isplitr; · iexact HR
    isplitr; · iexact Hlev
    isplitl [HO]; · iexact HO
    isplitl [Hoa]; · iexact Hoa
    isplitl [Hpa]; · iexact Hpa
    isplitl [Htt]; · iexact Htt
    isplitl [Hc3]; · iexact Hc3
    isplitl [Ha2]; · iexact Ha2
    iexact Ha3
  iintro ⟨HO, H4, Hz2, Hz3⟩
  beta_reduce
  iapply run_bind
  iapply (part6 m K c (place c) _) $$ [HO Hy0 Hy1 Hq0 Hq1 Hpr0 Htk0]
  · isplitr; · iexact HR
    isplitl [HO]; · iexact HO
    isplitl [Hy0]; · iexact Hy0
    isplitl [Hy1]; · iexact Hy1
    isplitl [Hq0]; · iexact Hq0
    isplitl [Hq1]; · iexact Hq1
    isplitl [Hpr0]; · iexact Hpr0
    iexact Htk0
  iintro ⟨HO, Hy0, Hy1, Hq0, Hq1⟩
  beta_reduce
  iapply run_bind
  iapply (part7 m K c (place c) _ _) $$ [HO Hy2 Hy3 Hq1 Hq2 Hq3 Hpr1 Htk1 Hpr2 Htk2 Hpr3 Htk3]
  · isplitr; · iexact HR
    isplitl [HO]; · iexact HO
    isplitl [Hy2]; · iexact Hy2
    isplitl [Hy3]; · iexact Hy3
    isplitl [Hq1]; · iexact Hq1
    isplitl [Hq2]; · iexact Hq2
    isplitl [Hq3]; · iexact Hq3
    isplitl [Hpr1 Htk1]
    · isplitl [Hpr1]; · iexact Hpr1
      iexact Htk1
    isplitl [Hpr2 Htk2]
    · isplitl [Hpr2]; · iexact Hpr2
      iexact Htk2
    · isplitl [Hpr3]; · iexact Hpr3
      iexact Htk3
  iintro ⟨HO, Hy2, Hy3, Hq1, Hq2, Hq3⟩
  beta_reduce
  iapply run_bind
  iapply (part8 m K c _) $$ [HO Hq0 Hq1 Hq2 Hq3 Ho Hc1 Ha0 Ha1]
  · isplitr; · iexact HR
    isplitr; · iexact Hlev
    isplitl [HO]; · iexact HO
    isplitl [Hq0 Hq1 Hq2 Hq3]
    · isplitl [Hq0]; · iexact Hq0
      isplitl [Hq1]; · iexact Hq1
      isplitl [Hq2]; · iexact Hq2
      iexact Hq3
    isplitl [Ho]; · iexact Ho
    isplitl [Hc1]; · iexact Hc1
    isplitl [Ha0]; · iexact Ha0
    iexact Ha1
  iintro ⟨HO, Ho, Hq, Hr, Hz0, Hz1⟩
  beta_reduce
  iapply run_ret
  isplitl [HO]; · iexact HO
  isplitl [Hx]; · iexact Hx
  isplitl [Ho]; · iexact Ho
  isplitl [Hw0 Hw1 Hw2 Hw3]
  · iapply (Entails.of_eq (w_whole c m).symm)
    isplitl [Hw0]; · iexact Hw0
    isplitl [Hw1]; · iexact Hw1
    isplitl [Hw2]; · iexact Hw2
    iexact Hw3
  isplitl [Hb0 Hb1 Hy0 Hy1 Hy2 Hy3 Hq Hr Hor H4]
  · isplitl [Hb0 Hb1]
    · iapply (b_whole c (WB m c 2) (WB m c 3))
      isplitl [Hb0]; · iexact Hb0
      iexact Hb1
    isplitl [Hy0 Hy1 Hy2 Hy3]
    · iapply (y_whole c (YB m c))
      isplitl [Hy0]; · iexact Hy0
      isplitl [Hy1]; · iexact Hy1
      isplitl [Hy2]; · iexact Hy2
      iexact Hy3
    isplitl [Hq]
    · iapply (q_whole c (QB m c)); iexact Hq
    isplitl [Hor Hr]
    · iapply (slots_back c m)
      isplitl [Hor]; · iexact Hor
      iexact Hr
    · iexists (AM m); iexact H4
  unfold zeros
  isplitl [Hbar]; · iexact Hbar
  isplitl [Hz0]; · iexact Hz0
  isplitl [Hz1]; · iexact Hz1
  isplitl [Hz2]; · iexact Hz2
  isplitl [Hz3]; · iexact Hz3
  isplitl [Hv0]; · iexact Hv0
  iexact Hv1

end Cert.Proof

end
-- ==== Proof.Deal.lean ====
module

public import proofs.«01_k».proof.Proof.Body

/-!
# Who starts with what: the exchange's state dealt to the devices
-/

@[expose] public section

noncomputable section

namespace Cert.Proof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)
variable (K : Dev nD × Ix17 → ℕ)

/-! ## Sums over the exchange's semaphores -/

theorem semsum (Φ : Ix17 → sProp 𝕄) : bigSep Finset.univ Φ = iprop(Φ none ∗ all fun k => all fun p => Φ (some (k, p))) := by
  have e : (bigSep Finset.univ fun kp : Fin 4 × Fin 4 => Φ (some kp)) = all fun k => all fun p => Φ (some (k, p)) := by
    rw [bigSep_univ_prod, all_eq]
    exact congrArg all (funext fun k => all_eq _)
  rw [bigSep_univ_equiv (Equiv.optionEquivSumPUnit.{0} (Fin 4 × Fin 4)).symm Φ, bigSep_univ_sum, ← e,
    bigSep_univ_of_subsingleton PUnit.unit]
  exact equiv_iff.mp ⟨BI.sep_comm (M := 𝕄), BI.sep_comm (M := 𝕄)⟩

theorem kindsum (Φ : Option (Fin 4) → sProp 𝕄) : bigSep Finset.univ Φ = iprop(Φ none ∗ all fun k => Φ (some k)) := by
  rw [bigSep_univ_equiv (Equiv.optionEquivSumPUnit.{0} (Fin 4)).symm Φ, bigSep_univ_sum, ← all_eq, bigSep_univ_of_subsingleton PUnit.unit]
  exact equiv_iff.mp ⟨BI.sep_comm (M := 𝕄), BI.sep_comm (M := 𝕄)⟩

theorem kcell_inj : Function.Injective (kcell : Dev nD × Ix17 → GSem nD τ sig) := by
  rintro ⟨c, x⟩ ⟨d, y⟩ h
  have hc : c = d := congrArg (fun g : GSem nD τ sig => g.1.1) h
  have hs : csem x = csem y := congrArg Prod.snd h
  subst hc
  match x, y, hs with
  | none, none, _ => rfl
  | some (k, p), some (l, q), hs =>
    obtain ⟨rfl, rfl⟩ := dq_inj (SemLoc.dma.inj hs)
    rfl

/-! ## The tokens

A token for every device's unit or landing at every semaphore of the exchange: those at a device's own semaphores for its
own sends stay, the rest go to the device that pays. -/

/-- A device's semaphores by kind, the barrier the one of no kind. -/
abbrev cellAt (c : Dev nD) (j : Option (Fin 4)) (p : Dev nD) : GSem nD τ sig := match j with
  | none => barCell c
  | some k => xCell k c p
abbrev tok (x : Dev nD × Option (Fin 4) × Dev nD) : GSem nD τ sig × ℕ × Dev nD := (cellAt x.1 x.2.1 x.2.2, 0, x.2.2)

theorem tok_inj : Function.Injective tok := by
  rintro ⟨c, j, p⟩ ⟨d, l, q⟩ h
  have hp : p = q := congrArg (fun x : GSem nD τ sig × ℕ × Dev nD => x.2.2) h
  have hg : cellAt c j p = cellAt d l q := congrArg Prod.fst h
  subst hp
  match j, l, hg with
  | none, none, hg => rw [show c = d from congrArg (fun g : GSem nD τ sig => g.1.1) hg]
  | none, some l, hg => cases congrArg Prod.snd hg
  | some j, none, hg => cases congrArg Prod.snd hg
  | some j, some l, hg =>
    obtain ⟨rfl, -⟩ := dq_inj (SemLoc.dma.inj (congrArg Prod.snd hg))
    rw [show c = d from congrArg (fun g : GSem nD τ sig => g.1.1) hg]

def cells17 : Finset (GSem nD τ sig) := Finset.univ.map ⟨kcell, kcell_inj⟩
def toks17 : Finset (GSem nD τ sig × ℕ × Dev nD) := Finset.univ.map ⟨tok, tok_inj⟩

/-- The tokens at device `c`'s barrier and at its semaphores of kind `k`, as made, -/
abbrev madeBar (c : Dev nD) : sProp 𝕄 := bigSep Finset.univ fun p : Dev nD => dutyTok ER (barCell c) 0 p
abbrev made (k : Fin 4) (c : Dev nD) : sProp 𝕄 := bigSep Finset.univ fun p : Dev nD => dutyTok ER (xCell k c p) 0 p
/-- and those device `c` pays with elsewhere. -/
abbrev heldBar (c : Dev nD) : sProp 𝕄 := bigSep Finset.univ fun p : Dev nD => dutyTok ER (barCell p) 0 c
abbrev held (k : Fin 4) (c : Dev nD) : sProp 𝕄 := bigSep Finset.univ fun p : Dev nD => dutyTok ER (xCell k p c) 0 c

/-- What a device's part of the launch state is, -/
def G (c : Dev nD) : sProp 𝕄 :=
  iprop((bigSep Finset.univ fun x : Ix17 => roundState ER (rd m) (kcell (c, x)) 0)
    ∗ (bigSep Finset.univ fun x : Ix17 => iprop(atPos ER (kcell (c, x)) 0 ∅ 0 ∗ reached ER (kcell (c, x)) 0))
    ∗ madeBar c ∗ made 0 c ∗ made 1 c ∗ made 2 c ∗ made 3 c)

/-- the semaphores of its copies of `w` at zero, -/
abbrev copySems (c : Dev nD) : sProp 𝕄 :=
  iprop(semVal ((c : Thread nD τ), .dma (wq 0)) 0 ∗ semVal ((c : Thread nD τ), .dma (wq 1)) 0)

/-- its positions and the tokens it pays with, -/
def mine (c : Dev nD) : sProp 𝕄 :=
  iprop((atPos ER (barCell c) 0 ∅ 0 ∗ atKind c 0 ∗ atKind c 1 ∗ atKind c 2 ∗ atKind c 3) ∗ barToks c ∗ tileToks c ∗ blockToks c)

/-- and what it starts with. -/
def G' (c : Dev nD) : sProp 𝕄 := iprop(∃ K, (records m K ∗ mine c) ∗ copySems c)

/-- The parts of the launch state, kind by kind. -/
theorem parts : iprop((bigSep Finset.univ fun c : Dev nD => bigSep Finset.univ fun x : Ix17 => roundState ER (rd m) (kcell (c, x)) 0)
      ∗ ((bigSep Finset.univ fun c : Dev nD => bigSep Finset.univ fun x : Ix17 => atPos ER (kcell (c, x)) 0 ∅ 0)
        ∗ bigSep Finset.univ fun c : Dev nD => bigSep Finset.univ fun x : Ix17 => reached ER (kcell (c, x)) 0)
      ∗ bigSep Finset.univ fun c : Dev nD => (iprop(madeBar c ∗ made 0 c ∗ made 1 c ∗ made 2 c ∗ made 3 c) : sProp 𝕄))
    ⊢ bigSep Finset.univ (G m) := by
  refine Entails.of_eq ?_
  unfold G
  simp only [bigSep_sep']

theorem fund17 : BI.own (ER (initOf cells17 toks17)) ⊢ (|==> bigSep Finset.univ (G m) : sProp 𝕄) := by
  have hX (Φ : GSem nD τ sig → sProp 𝕄) : bigSep cells17 Φ = bigSep Finset.univ fun c : Dev nD => bigSep Finset.univ fun x : Ix17 => Φ (kcell (c, x)) := by
    unfold cells17; rw [bigSep_map, bigSep_univ_prod]; rfl
  have hT : bigSep toks17 (fun x => (dutyTok ER x.1 x.2.1 x.2.2 : sProp 𝕄))
      = bigSep Finset.univ fun c : Dev nD => iprop(madeBar c ∗ made 0 c ∗ made 1 c ∗ made 2 c ∗ made 3 c) := by
    unfold toks17; rw [bigSep_map, bigSep_univ_prod]
    exact bigSep_congr fun c _ => by rw [bigSep_univ_prod, kindsum]; rfl
  iintro HX
  imod (Rounds.fund ER (rd m) cells17 toks17) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  iapply (parts m)
  isplitl [Hst]; · iexact Hst
  isplitl [Hat Hr]
  · isplitl [Hat]; · iexact Hat
    iexact Hr
  iexact Htok

/-! ## The semaphores into the exchange -/

/-- The kernel's own semaphores: two for the copies of `w`, sixteen of the exchange. -/
abbrev osem : Fin 2 ⊕ (Fin 4 × Fin 4) → SemLoc sig
  | .inl b => .dma (wq b)
  | .inr (k, p) => .dma (dq k p)

theorem ownSemFacts : Pipeline.OwnSemFacts cfg0.spec osem := by decide

abbrev ownSems (c : Dev nD) : sProp 𝕄 := Pipeline.ownSems0 (Ix := Unit) (Name := ℕ) (U := UU) (Lvl := ℕ) (Val := Elt F) (τ := τ) osem c

theorem ownSems_eq (c : Dev nD) : (ownSems c : sProp 𝕄) = iprop(copySems c ∗ all fun k => zeroKind c k) := by
  unfold ownSems Pipeline.ownSems0
  rw [bigSep_univ_sum, two, bigSep_univ_prod, all_eq]
  exact congrArg (fun R => iprop(copySems c ∗ R)) (congrArg all (funext fun k => all_eq _))

theorem barSem_eq (c : Dev nD) : (unscopedSems0 c : sProp 𝕄) = semVal (barCell c) 0 := by
  unfold unscopedSems0; rw [bigSep_eq_bigSepL_of_eq [SemLoc.reg barS] (by decide) (by decide)]; rfl

theorem alloc17 (c : Dev nD) :
    iprop(ownSems c ∗ unscopedSems0 c ∗ G m c)
      ⊢ |={Set.univ}=> iprop((bigSep Finset.univ fun x => iprop(∃ κ : ℕ, cellInv ER (rd m) κ (kcell (c, x))))
          ∗ (bigSep Finset.univ fun x => iprop(atPos ER (kcell (c, x)) 0 ∅ 0 ∗ reached ER (kcell (c, x)) 0))
          ∗ (madeBar c ∗ made 0 c ∗ made 1 c ∗ made 2 c ∗ made 3 c) ∗ copySems c) := by
  unfold G
  rw [ownSems_eq, barSem_eq]
  iintro ⟨⟨Hw, Hk⟩, Hb, Hst, Hat, Htok⟩
  imod (show iprop((bigSep Finset.univ fun x : Ix17 => semVal (kcell (c, x)) 0) ∗ bigSep Finset.univ fun x : Ix17 => roundState ER (rd m) (kcell (c, x)) 0)
      ⊢ (|={Set.univ}=> bigSep Finset.univ fun x => iprop(∃ κ : ℕ, cellInv ER (rd m) κ (kcell (c, x))) : sProp 𝕄) from by
        rw [← bigSep_sep']
        exact (bigSep_mono fun x _ => (Rounds.body_intro ER (rd m) (kcell (c, x))).trans inv_alloc).trans (bigSep_fupd _ _)) $$ [Hb Hk Hst] with Hinv
  · isplitr [Hst]
    · iapply (Entails.of_eq (semsum fun x => semVal (kcell (c, x)) 0).symm)
      isplitl [Hb]; · iexact Hb
      iexact Hk
    iexact Hst
  imodintro
  isplitl [Hinv]; · iexact Hinv
  isplitl [Hat]; · iexact Hat
  isplitl [Htok]; · iexact Htok
  iexact Hw

/-! ## Each device its own part -/

theorem to_emp (R : sProp 𝕄) : R ⊢ (iprop(emp) : sProp 𝕄) := by
  iintro -; iempintro
/-- What is held for every device is held for every peer. -/
theorem to_peer (c p : Dev nD) (R : sProp 𝕄) : R ⊢ peer c p R := by
  by_cases h : p = c
  · subst h; rw [peer_self]; exact to_emp _
  · rw [peer_ne h]

theorem mine_toks (c : Dev nD) : iprop(heldBar c ∗ made 0 c ∗ held 1 c ∗ made 2 c ∗ held 3 c) ⊢ (iprop(barToks c ∗ tileToks c ∗ blockToks c) : sProp 𝕄) := by
  have h2 (j k : Fin 4) : iprop(made j c ∗ held k c)
      ⊢ (all fun p => peer c p iprop(dutyTok ER (xCell j c p) 0 p ∗ dutyTok ER (xCell k p c) 0 c) : sProp 𝕄) := by
    rw [← bigSep_sep', ← all_eq]
    exact bigSep_mono fun p _ => to_peer c p _
  have h1 : heldBar c ⊢ (barToks c : sProp 𝕄) := by
    unfold barToks
    rw [← all_eq]
    exact bigSep_mono fun p _ => to_peer c p _
  iintro ⟨Hb, H0, H1, H2, H3⟩
  isplitl [Hb]; · iapply h1; iexact Hb
  isplitl [H2 H3]
  · iapply (h2 2 3)
    isplitl [H2]; · iexact H2
    iexact H3
  · iapply (h2 0 1)
    isplitl [H0]; · iexact H0
    iexact H1

theorem toks_dealt : (bigSep Finset.univ fun c : Dev nD => iprop(madeBar c ∗ made 0 c ∗ made 1 c ∗ made 2 c ∗ made 3 c) : sProp 𝕄)
    ⊢ bigSep Finset.univ fun c : Dev nD => iprop(barToks c ∗ tileToks c ∗ blockToks c) := by
  refine Entails.trans (Entails.of_eq ?_) (bigSep_mono fun c _ => mine_toks c)
  rw [bigSep_sep', bigSep_sep', bigSep_sep', bigSep_sep', bigSep_sep', bigSep_sep', bigSep_sep', bigSep_sep',
    bigSep_univ_comm (fun c p : Dev nD => (dutyTok ER (barCell c) 0 p : sProp 𝕄)),
    bigSep_univ_comm (fun c p : Dev nD => (dutyTok ER (xCell 1 c p) 0 p : sProp 𝕄)),
    bigSep_univ_comm (fun c p : Dev nD => (dutyTok ER (xCell 3 c p) 0 p : sProp 𝕄))]

theorem start_each (c : Dev nD) : iprop(records m K ∗ mine c ∗ copySems c) ⊢ G' m c := by
  unfold G'
  iintro ⟨HR, Hm, Hc⟩
  iexists K
  isplitl [HR Hm]
  · isplitl [HR]; · iexact HR
    iexact Hm
  iexact Hc

theorem rejoin (A B C : Dev nD → sProp 𝕄) :
    iprop((bigSep Finset.univ A ∗ bigSep Finset.univ B) ∗ bigSep Finset.univ C) ⊢ bigSep Finset.univ fun c => iprop((A c ∗ B c) ∗ C c) :=
  Entails.of_eq (by rw [bigSep_sep', bigSep_sep'])

theorem deal :
    (bigSep Finset.univ fun c : Dev nD => iprop((bigSep Finset.univ fun x => iprop(∃ κ : ℕ, cellInv ER (rd m) κ (kcell (c, x))))
          ∗ (bigSep Finset.univ fun x => iprop(atPos ER (kcell (c, x)) 0 ∅ 0 ∗ reached ER (kcell (c, x)) 0))
          ∗ (madeBar c ∗ made 0 c ∗ made 1 c ∗ made 2 c ∗ made 3 c) ∗ copySems c) : sProp 𝕄)
      ⊢ bigSep Finset.univ (G' m) := by
  rw [bigSep_sep', bigSep_sep', bigSep_sep', ← bigSep_univ_prod (fun x : Dev nD × Ix17 => iprop(∃ κ : ℕ, cellInv ER (rd m) κ (kcell x))),
    bigSep_congr (s := Finset.univ) (fun (c : Dev nD) _ => bigSep_sep' Finset.univ (fun x : Ix17 => (atPos ER (kcell (c, x)) 0 ∅ 0 : sProp 𝕄)) (fun x => reached ER (kcell (c, x)) 0)),
    bigSep_sep', ← bigSep_univ_prod (fun x : Dev nD × Ix17 => (reached ER (kcell x) 0 : sProp 𝕄))]
  iintro ⟨HI, ⟨Hat, HR⟩, Htok, Hw⟩
  ihave HK := (BI.bigSep_exists_pi Finset.univ (fun (x : Dev nD × Ix17) (κ : ℕ) => (cellInv ER (rd m) κ (kcell x) : sProp 𝕄))) $$ HI
  icases HK with ⟨%K, HI⟩
  ihave Htok := (toks_dealt (F := F)) $$ Htok
  ihave Hat := (show (bigSep Finset.univ fun c : Dev nD => bigSep Finset.univ fun x : Ix17 => (atPos ER (kcell (c, x)) 0 ∅ 0 : sProp 𝕄))
      ⊢ bigSep Finset.univ fun c : Dev nD => iprop(atPos ER (barCell c) 0 ∅ 0 ∗ atKind c 0 ∗ atKind c 1 ∗ atKind c 2 ∗ atKind c 3) from
    bigSep_mono fun c _ => Entails.of_eq (semsum fun x => atPos ER (kcell (c, x)) 0 ∅ 0)) $$ Hat
  iapply (bigSep_with_persistent (R := records m K) (Φ := fun c => iprop(mine c ∗ copySems c)) fun c _ => start_each m K c)
  isplitl [HI HR]
  · unfold records
    rw [bigSep_sep']
    isplitl [HI]; · iexact HI
    iexact HR
  iapply (rejoin (F := F) (fun c : Dev nD => iprop(atPos ER (barCell c) 0 ∅ 0 ∗ atKind c 0 ∗ atKind c 1 ∗ atKind c 2 ∗ atKind c 3))
    (fun c => iprop(barToks c ∗ tileToks c ∗ blockToks c)) copySems)
  isplitl [Hat Htok]
  · isplitl [Hat]; · iexact Hat
    iexact Htok
  iexact Hw

/-- From every device's semaphores and part of the launch state, what every device starts with. -/
theorem dealt : (bigSep Finset.univ fun c => iprop(ownSems c ∗ unscopedSems0 c ∗ G m c) : sProp 𝕄) ⊢ |={Set.univ}=> bigSep Finset.univ (G' m) :=
  ((bigSep_mono fun c _ => alloc17 m c).trans (bigSep_fupd _ _)).trans (BI.fupd_mono (deal m))

/-! ## Credit for what the others pay -/

theorem pay_bar_at (d p : Dev nD) (g : GSem nD τ sig) : pay d p.val g () = if p ≠ d ∧ g = barCell p then 1 else 0 := by
  by_cases h : p = d
  · subst h; rw [pay_self p p.val (Nat.mod_eq_of_lt p.isLt), if_neg fun h => h.1 rfl]; rfl
  · rw [pay_bar d p h, tallyAt_apply]
    exact if_congr ⟨fun h' => ⟨h, h'.1⟩, fun h' => ⟨h'.2, rfl⟩⟩ rfl rfl
theorem pay_tile_at (d p : Dev nD) (g : GSem nD τ sig) : pay d (4 + p.val) g () = if p ≠ d ∧ g = xCell 3 p d then NA else 0 := by
  by_cases h : p = d
  · subst h; rw [pay_self p (4 + p.val) (by have : p.val < 4 := p.isLt; omega), if_neg fun h => h.1 rfl]; rfl
  · rw [pay_tile d p h, tallyAt_apply]
    exact if_congr ⟨fun h' => ⟨h, h'.1⟩, fun h' => ⟨h'.2, rfl⟩⟩ rfl rfl
theorem pay_block_at (d p : Dev nD) (g : GSem nD τ sig) : pay d (8 + p.val) g () = if p ≠ d ∧ g = xCell 1 p d then ND else 0 := by
  by_cases h : p = d
  · subst h; rw [pay_self p (8 + p.val) (by have : p.val < 4 := p.isLt; omega), if_neg fun h => h.1 rfl]; rfl
  · rw [pay_block d p h, tallyAt_apply]
    exact if_congr ⟨fun h' => ⟨h, h'.1⟩, fun h' => ⟨h'.2, rfl⟩⟩ rfl rfl

/-- What device `d` owes a semaphore in all. -/
theorem due_at (d : Dev nD) (g : GSem nD τ sig) :
    due d 0 g () = (∑ p : Dev nD, if p ≠ d ∧ g = barCell p then 1 else 0) + (∑ p : Dev nD, if p ≠ d ∧ g = xCell 3 p d then NA else 0)
      + ∑ p : Dev nD, if p ≠ d ∧ g = xCell 1 p d then ND else 0 := by
  rw [← Finset.sum_congr rfl fun p _ => pay_bar_at d p g, ← Finset.sum_congr rfl fun p _ => pay_tile_at d p g,
    ← Finset.sum_congr rfl fun p _ => pay_block_at d p g]
  unfold due
  rw [Finset.sum_apply, Finsupp.finset_sum_apply, show Finset.Ico 0 12 = Finset.range 12 from by decide, Fin.sum_univ_four, Fin.sum_univ_four, Fin.sum_univ_four]
  simp only [Finset.sum_range_succ, Finset.sum_range_zero, zero_add]
  show _ = (pay d 0 g () + pay d 1 g () + pay d 2 g () + pay d 3 g ()) + (pay d 4 g () + pay d 5 g () + pay d 6 g () + pay d 7 g ())
    + (pay d 8 g () + pay d 9 g () + pay d 10 g () + pay d 11 g ())
  omega

theorem bar_ne_x (c d p : Dev nD) (k : Fin 4) : barCell c ≠ xCell k d p := fun h => by cases congrArg Prod.snd h
theorem x_eq {k l : Fin 4} {c p d q : Dev nD} (h : xCell k c p = xCell l d q) : k = l ∧ c = d ∧ p = q := by
  obtain ⟨h1, h2⟩ := dq_inj (SemLoc.dma.inj (congrArg Prod.snd h))
  exact ⟨h1, congrArg (fun g : GSem nD τ sig => g.1.1) h, h2⟩

theorem sum_none {α : Type} [Fintype α] {P : α → Prop} [DecidablePred P] {n : ℕ} (h : ∀ a, ¬ P a) : (∑ a, if P a then n else 0) = 0 :=
  Finset.sum_eq_zero fun a _ => if_neg (h a)

theorem due_barCell (d c : Dev nD) : due d 0 (barCell c) () = if d = c then 0 else 1 := by
  have h3 : (∑ p : Dev nD, if p ≠ d ∧ barCell c = xCell 3 p d then NA else 0) = 0 := sum_none fun p h => bar_ne_x _ _ _ _ h.2
  have h1 : (∑ p : Dev nD, if p ≠ d ∧ barCell c = xCell 1 p d then ND else 0) = 0 := sum_none fun p h => bar_ne_x _ _ _ _ h.2
  rw [due_at, h3, h1,
    Finset.sum_eq_single c (fun p _ hp => if_neg fun h => hp (congrArg (fun g : GSem nD τ sig => g.1.1) h.2).symm) (fun h => absurd (Finset.mem_univ _) h)]
  by_cases h : d = c
  · rw [if_neg fun h' => h'.1 h.symm, if_pos h]
  · rw [if_pos ⟨fun h' => h h'.symm, rfl⟩, if_neg h]

theorem due_xCell (k : Fin 4) (hk : k = 3 ∨ k = 1) (d c p : Dev nD) (hp : p ≠ c) : due d 0 (xCell k c p) () = if d = p then NX k else 0 := by
  rw [due_at, sum_none fun p h => bar_ne_x _ _ _ _ h.2.symm]
  have one (l : Fin 4) (n : ℕ) (e : k = l) : (∑ p' : Dev nD, if p' ≠ d ∧ xCell k c p = xCell l p' d then n else 0) = if d = p then n else 0 := by
    subst e
    rw [Finset.sum_eq_single c (fun p' _ hp' => if_neg fun h => hp' (x_eq h.2).2.1.symm) (fun h => absurd (Finset.mem_univ _) h)]
    by_cases h : d = p
    · subst h; rw [if_pos rfl, if_pos ⟨Ne.symm hp, rfl⟩]
    · rw [if_neg h, if_neg fun h' => h (x_eq h'.2).2.2.symm]
  rcases hk with rfl | rfl
  · rw [one 3 NA rfl, sum_none fun p' h => absurd (x_eq h.2).1 (by decide)]
    simp only [Nat.zero_add, Nat.add_zero]; rfl
  · rw [one 1 ND rfl, sum_none fun p' h => absurd (x_eq h.2).1 (by decide)]
    simp only [Nat.zero_add, Nat.add_zero]; rfl

/-- What the devices owe at the start. -/
abbrev O₀ (c : Dev nD) : CellTallies nD τ sig Unit := due c 0

theorem credit_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => due_barCell d c]
  revert c; decide

theorem credit_x (k : Fin 4) (hk : k = 3 ∨ k = 1) (c p : Dev nD) (hp : p ≠ c) :
    tallyOn (xCell k c p) (launchCredit (Pipeline.owing O₀) 0 (xCell k c p)) = (tallyAt (xCell k c p) () (NX k) : CellTallies nD τ sig Unit) := by
  unfold tallyAt; refine congrArg _ (Finsupp.ext fun u => ?_); cases u
  rw [Pipeline.launchCredit_owing, Finsupp.single_eq_same, Finset.sum_congr rfl fun d _ => due_xCell k hk d c p hp,
    Finset.sum_ite_eq' Finset.univ p fun _ => NX k, if_pos (Finset.mem_univ _)]

theorem csem_inj : Function.Injective csem := fun x y h =>
  (Prod.mk.inj (kcell_inj (a₁ := ((0 : Dev nD), x)) (a₂ := ((0 : Dev nD), y)) (Prod.ext rfl h))).2

/-- A device's credit at the start: for three units of its barrier, and a tile and a block of every peer. -/
theorem credits (c : Dev nD) :
    (Pipeline.launchCred O₀ c : sProp 𝕄) ⊢ iprop(cred (tallyAt (barCell c) () 3) ∗ credKind c 3 ∗ credKind c 1) := by
  have hk (k : Fin 4) (hk : k = 3 ∨ k = 1) :
      (all fun p => cred (tallyOn (kcell (c, some (k, p))) (launchCredit (Pipeline.owing O₀) 0 (kcell (c, some (k, p)))))) ⊢ (credKind c k : sProp 𝕄) := by
    unfold credKind
    rw [← all_eq, ← all_eq]
    refine bigSep_mono fun p _ => ?_
    by_cases h : p = c
    · subst h; rw [peer_self]; exact to_emp _
    · rw [peer_ne h]; exact Entails.of_eq (congrArg cred (credit_x k hk c p h))
  unfold Pipeline.launchCred
  refine (bigSep_subset (t := Finset.univ.map ⟨csem, csem_inj⟩) (Finset.subset_univ _)).trans ?_
  rw [bigSep_map, semsum]
  exact (show iprop(cred (tallyOn (barCell c) (launchCredit (Pipeline.owing O₀) 0 (barCell c)))
      ∗ all fun k => all fun p => cred (tallyOn (kcell (c, some (k, p))) (launchCredit (Pipeline.owing O₀) 0 (kcell (c, some (k, p))))))
    ⊢ (iprop(cred (tallyAt (barCell c) () 3) ∗ credKind c 3 ∗ credKind c 1) : sProp 𝕄) from by
    iintro ⟨Hb, -, H1, -, H3⟩
    isplitl [Hb]; · iapply (Entails.of_eq (congrArg cred (credit_bar c))); iexact Hb
    isplitl [H3]; · iapply (hk 3 (Or.inl rfl)); iexact H3
    iapply (hk 1 (Or.inr rfl)); iexact H1)

end Cert.Proof

end
-- ==== Proof.Run.lean ====
module

public import proofs.«01_k».proof.Proof.Deal
public import Idealize.ShloMosaic.Lib.Pipeline.CollectiveSegs

/-!
# The run of the whole program
-/

@[expose] public section

noncomputable section

namespace Cert.Proof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)
variable (K : Dev nD × Ix17 → ℕ)

variable (ρ : Dev nD → PrngReg)

/-! ## The kernel's call -/

/-- What a device holds beside its two staged blocks as the body starts, -/
def Φ₀ (c : Dev nD) : sProp 𝕄 :=
  iprop((∃ K, ghost m K c) ∗ wWhole m c ∗ (some0 c ∗ some1 c ∗ some2 c ∗ some3 c ∗ some4 c) ∗ copySems c)
/-- and as it ends. -/
def Φ₁ (c : Dev nD) : sProp 𝕄 := iprop(wWhole m c ∗ (some0 c ∗ some1 c ∗ some2 c ∗ some3 c ∗ some4 c) ∗ zeros c)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => X m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A staging buffer of device `c` whole, its contents named. -/
abbrev stage (c : Dev nD) (b : Ref sig .tc) (x : b.ty.Contents (Elt F)) : sProp 𝕄 :=
  iprop(∃ f : Buf (Elt F) ((c : Thread nD τ).loc b), ⌜f = x⌝ ∗ (((c : Thread nD τ).loc b) ↦{fullShare} f))

theorem owns_stage (c : Dev nD) (b : Ref sig .tc) (x : b.ty.Contents (Elt F)) :
    (owns (Ix := Unit) (Name := ℕ) (U := UU) (Lvl := ℕ) (c : Thread nD τ) (Memref.whole b) fullShare x : sProp 𝕄) = stage c b x := by
  unfold owns; simp only [Memref.view_whole, View.read_whole, View.set_whole]

/-- `cc0`'s only point. -/
abbrev t₀ : Fin cfg0.N := t0_0

def pre (c : Dev nD) : sProp 𝕄 :=
  iprop(Φ₀ m c ∗ (dats m ρ 0 c).owesAt () t₀.castSucc
    ∗ (∃ d, stage c cc0_stg0_0 ((dats m ρ 0 c).before (0 : Fin 2) t₀ d))
    ∗ (∃ d, stage c cc0_stg1_0 ((dats m ρ 0 c).before (1 : Fin 2) t₀ d)))
def post (c : Dev nD) : sProp 𝕄 :=
  iprop(Φ₁ m c ∗ (dats m ρ 0 c).owesAt () t₀.succ ∗ stage c cc0_stg0_0 (X m c) ∗ stage c cc0_stg1_0 (outAt m c))

theorem run_mono {α : Type} (c : Dev nD) {p : Prog (TpuEff nD τ sig (Elt F) Λ₀ .tc) α} {Q Q' : α → sProp 𝕄} (h : ∀ a, Q a ⊢ Q' a) :
    run c p Q ⊢ run c p Q' := wp_mono _ _ _ h

theorem body_run (c : Dev nD) :
    pre m ρ c ⊢ run c (cc0_body (F := F) xM (Memref.isWhole_whole _) wM (Memref.isWhole_whole _) oM (Memref.isWhole_whole _) bM (Memref.isWhole_whole _) yM (Memref.isWhole_whole _)
      qM (Memref.isWhole_whole _) rM (Memref.isWhole_whole _) aM (Memref.isWhole_whole _) cc0_scratch5 cc0_scratch6 cc0_scratch7 cc0_scratch8 cc0_scratch9) fun _ => post m ρ c := by
  refine BIBase.Entails.trans ?_ (run_mono c (Q := fun _ => iprop(owing c 12 ∗ xPts m c ∗ (((c : Thread nD τ).loc cc0_stg1_0) ↦{fullShare} (outAt m c)) ∗ wWhole m c
        ∗ (some0 c ∗ some1 c ∗ some2 c ∗ some3 c ∗ some4 c) ∗ zeros c)) fun _ => ?_)
  · unfold pre Φ₀
    iintro ⟨⟨⟨%K, HG⟩, Hw, Hs, Hv0, Hv1⟩, HO, ⟨%d0, %f0, %e0, Hx⟩, ⟨%d1, %f1, -, Ho⟩⟩
    have ex : f0 = X m c := by rw [e0]; unfold Pipeline.Dat.before; rw [if_pos (fetch0_0 t₀)]; rfl
    subst ex
    unfold Pipeline.Dat.owesAt Pipeline.owesWithin
    icases HO with ⟨%W, -, HO⟩
    iapply (body m K c)
    isplitl [HG]; · iexact HG
    isplitl [HO]; · unfold owing; iexists W; iexact HO
    isplitl [Hx]; · unfold xPts; iexact Hx
    isplitl [Ho]; · iexists f1; iexact Ho
    isplitl [Hw]; · iexact Hw
    isplitl [Hs]; · iexact Hs
    isplitl [Hv0]; · iexact Hv0
    iexact Hv1
  · unfold post Φ₁ owing Pipeline.Dat.owesAt Pipeline.owesWithin
    iintro ⟨⟨%W, HO⟩, Hx, Ho, Hw, Hs, Hz⟩
    isplitl [Hw Hs Hz]
    · isplitl [Hw]; · iexact Hw
      isplitl [Hs]; · iexact Hs
      iexact Hz
    isplitl [HO]
    · iexists W
      isplitr; · ipureintro; exact fun _ _ => Or.inl trivial
      rw [due_end]
      iexact HO
    isplitl [Hx]
    · iexists _; isplitr; · (ipureintro; rfl)
      unfold xPts; iexact Hx
    iexists _; isplitr; · (ipureintro; rfl)
    iexact Ho

set_option maxRecDepth 4000 in
theorem body_obligation (c : Dev nD) : Pipeline.BodyObligation (dats (F := F) m ρ 0 c) (defs₀ (F := F)) 𝒱₀ () Set.univ := fun t => by
  rw [fin_N0 t]
  rw [bigSep_W0, bigSep_W0]
  simp only [owns_stage]
  exact body_run m ρ c

/-! ## Around the call -/

theorem share_eq (c : Dev nD) (w : Fin cfg0.W) : (dats m ρ 0 c).share w = fullShare := by unfold Pipeline.Dat.share; split <;> rfl

def u₀ : UU :=
  (initOf (Pipeline.cells cfgs cellOf_inj) (Pipeline.launchToks cfgs cellOf_inj), (initOf cells17 toks17, 1))

theorem split_u (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- What a device starts the call with. -/
def start (c : Dev nD) : sProp 𝕄 := iprop((∃ K, ghost m K c) ∗ wWhole m c ∗ copySems c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' mine
  iintro ⟨Hw, Hlev, Hcr, -, %K, ⟨HR, ⟨Hb, H0, H1, H2, H3⟩, Htb, Htt, Htk⟩, Hc⟩
  ihave Hcr := (credits (F := F) c) $$ Hcr
  icases Hcr with ⟨Hcb, Hc3, Hc1⟩
  imodintro
  unfold start ghost
  isplitl
  · isplitr [Hw Hc]
    · iexists K
      isplitl [HR]; · iexact HR
      isplitl [Hlev]; · iexact Hlev
      isplitl [Htb]; · iexact Htb
      isplitl [Htt]; · iexact Htt
      isplitl [Htk]; · iexact Htk
      isplitl [Hcb]; · iexact Hcb
      isplitl [Hc3]; · iexact Hc3
      isplitl [Hc1]; · iexact Hc1
      isplitl [Hb]; · iexact Hb
      isplitl [H0]; · iexact H0
      isplitl [H1]; · iexact H1
      isplitl [H2]; · iexact H2
      iexact H3
    isplitl [Hw]; · iexact Hw
    iexact Hc
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start
  iintro ⟨⟨HG, Hw, Hc⟩, -, Hs⟩
  isplitl [HG]; · iexact HG
  isplitl [Hw]; · iexact Hw
  isplitl [Hs]; · iexact Hs
  iexact Hc

/-- What a device keeps after the call: the barrier at zero, and its `w`. -/
abbrev kept (c : Dev nD) : sProp 𝕄 := iprop(unscopedSems0 c ∗ wWhole m c)

theorem leave (c : Dev nD) :
    (dats m ρ 0 c).Φ (Fin.last cfg0.N) ⊢ iprop(kept m c ∗ ownSems c ∗ Pipeline.scopedRest cfg0.spec c) := by
  rw [show (dats m ρ 0 c).Φ (Fin.last cfg0.N) = Φ₁ m c from rfl, scopedRest0_eq, ownSems_eq]
  unfold Φ₁ zeros kept
  rw [barSem_eq]
  iintro ⟨Hw, Hs, Hb, Hz0, Hz1, Hz2, Hz3, Hv0, Hv1⟩
  isplitl [Hb Hw]
  · isplitl [Hb]; · iexact Hb
    iexact Hw
  isplitr [Hs]
  · isplitl [Hv0 Hv1]
    · isplitl [Hv0]; · iexact Hv0
      iexact Hv1
    isplitl [Hz0]; · iexact Hz0
    isplitl [Hz1]; · iexact Hz1
    isplitl [Hz2]; · iexact Hz2
    iexact Hz3
  iexact Hs

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c 0 _ (by fin_cases w <;> fin_cases s <;> exact Nat.le_refl 0)
    · show _ ⊢ MayWait _ _ _ 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

/-- The end: the call's arrays at the computed contents, `w` as it was. -/
def Ends : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

theorem read_kept (c : Dev nD) (s' : Phys nD τ sig (Elt F)) :
    iprop(kept m c ∗ emp ∗ SI s') ⊢ |={Set.univ}=> iprop(⌜(s'.mem.mem ((c : Thread nD τ).loc main_arg1) = m ((c : Thread nD τ).loc main_arg1))
        ∧ ∀ sm : SemLoc sig, sm.isScoped .tc = false → s'.mem.sem ((c.tc : Thread nD τ), sm) = 0⌝ ∗ SI s' : sProp 𝕄) := by
  iintro ⟨⟨Hu, Hw⟩, -, HSI⟩
  ihave %hw := (SI_pointsTo_agree (st := s') (ℓ := (c : Thread nD τ).loc main_arg1) (I := Finset.univ) (q := fullShare)
    (f := m ((c : Thread nD τ).loc main_arg1))) $$ [HSI Hw]
  · isplitl [HSI]; · iexact HSI
    iexact Hw
  imod (Pipeline.unscopedSems0_read (X := unscopedSems0 c) (c := c) fupd_intro s') $$ [Hu HSI] with ⟨%hs, HSI⟩
  · isplitl [Hu]; · iexact Hu
    iexact HSI
  imodintro
  isplitr
  · ipureintro; exact ⟨funext fun i => hw i (Finset.mem_univ _), hs⟩
  iexact HSI

set_option maxRecDepth 8000 in
/-- On the four devices, from any memory with every semaphore at zero: every weakly fair run of the program terminates, and
    ends with the call's arrays at the computed contents, `w` as it was and every semaphore at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (split_u _ _) $$ Hu
      icases H with ⟨HP, HX⟩
      imod (fund17 m) $$ HX with HG
      imodintro
      isplitl [HP]; · iexact HP
      iexact HG)
    (hglob := dealt m)
    (hA := fun _ _ => rfl) (hpf := fun _ k => k.elim0)
    (X := start m) (Y := kept m) (Z := fun _ => iprop(emp))
    (hX := start_intro m ρ) (hin := enter m ρ) (hout := leave m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := read_kept m)
    (hQ := fun _ h hs => ⟨fun c => ⟨fun w => (h c).1 w, (h c).2.2.1⟩, sem_eq_zero hs fun c => (h c).2.2.2⟩)

/-- `x` after the run is as it was. -/
theorem finalA_x (c : Dev nD) : finalA m ρ c (0 : Fin 2) = m ((c : Thread nD τ).loc main_arg0) :=
  (dats (F := F) m ρ 0 c).arrAt_in (0 : Fin 2) rfl _

/-- The arguments after the run are as they were, and every semaphore is at zero. -/
theorem run_args : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨((h.1 c).1 (0 : Fin 2)).trans (finalA_x m ρ c), (h.1 c).2⟩, h.2⟩) (run_main m ρ)

end Cert.Proof

end
-- ==== Proof.Frames.lean ====
module

public import proofs.«01_k».proof.Defs
public import proofs.«01_k».proof.Proof.Gen.Kernel
public import proofs.«01_k».proof.Proof.Gen.ReferenceIdeal
public import proofs.«01_k».proof.Proof.Gen.ReferenceIdeal.Frame
public import proofs.«01_k».proof.Proof.Run

/-!
The frame of each program: it runs, leaves its arguments as they were, and leaves every semaphore at zero.

The kernel as printed and the kernel over the extended reals are one text, so both frames are the one run of `Run`, read
over machine words and over the extended reals.
-/

@[expose] public section

noncomputable section

namespace Cert.Proof

open Idealize.ShloMosaic Idealize.SL.Sem

/-- The two printed bodies are one program. -/
theorem bodies_same : Cert.Kernel.defs₀ (F := Bits) = Cert.KernelIdeal.defs₀ (F := Bits) := by
  refine congrArg Defs.onTc (funext fun l => funext fun a => ?_)
  match l, a with
  | 0, (_, _) => rfl

/-- So are the two launches. -/
theorem defs_same : Cert.Kernel.defs (F := Bits) = Cert.KernelIdeal.defs (F := Bits) := congrArg (Pipeline.defs _) bodies_same

/-- The kernel over machine words. -/
theorem frame_kernel : Cert.quiescent_Kernel := fun m ρ _ => by
  rw [defs_same]
  exact run_args (F := Bits) m ρ

/-- The kernel over the extended reals. -/
theorem frame_ideal : Cert.quiescent_KernelIdeal := fun m ρ _ => run_args (F := Ideal) m ρ

/-- The reference over the extended reals. -/
theorem frame_reference : Cert.quiescent_ReferenceIdeal := fun m ρ _ => Cert.ReferenceIdeal.Gen.frame m ρ

end Cert.Proof

end
-- ==== Proof.Whole.lean ====
module

public import Idealize.ShloMosaic.PureOps.Ideal
public import Idealize.ShloMosaic.PureOps.Ideal.Laws
public import Idealize.ShloMosaic.PureOps.Reduce
public import Idealize.ShloMosaic.Lib.StackMember

/-!
The layer on the whole matrices, over the extended reals.

`prod x w i j` is the element of the product after the linear rectifier and `amax x w` the greatest of all of them. A
maximum is used through the bounds above it only: `hostMax_le` and `vectorMax_le` say when a bound is above the maximum
that a reduction of all the axes computes, on the host and in a kernel.
-/

@[expose] public section

noncomputable section

namespace Cert.Proof

open Idealize.ShloMosaic Idealize.ShloMosaic.ValueIdx

/-- An `m × n` matrix of extended reals. -/
abbrev Mat (m n : ℕ) := (⟨2, ![m, n]⟩ : Shape).Idx → EReal

/-- An element of the product, negative ones replaced by zero. -/
def prod {m k n : ℕ} (x : Mat m k) (w : Mat k n) (i : Fin m) (j : Fin n) : EReal :=
  max (∑ l : Fin k, x (ix2 i l) * w (ix2 l j)) 0

/-- The greatest element. -/
def amax {m k n : ℕ} (x : Mat m k) (w : Mat k n) : EReal := ⨆ i, ⨆ j, prod x w i j

theorem prod_nonneg {m k n : ℕ} (x : Mat m k) (w : Mat k n) (i : Fin m) (j : Fin n) : 0 ≤ prod x w i j := le_max_right _ _

theorem prod_le_amax {m k n : ℕ} (x : Mat m k) (w : Mat k n) (i : Fin m) (j : Fin n) : prod x w i j ≤ amax x w :=
  le_iSup_of_le i (le_iSup_of_le j le_rfl)

theorem amax_le {m k n : ℕ} (x : Mat m k) (w : Mat k n) (M : EReal) : amax x w ≤ M ↔ ∀ i j, prod x w i j ≤ M := by
  simp only [amax, iSup_le_iff]

/-- A nonnegative element is its own magnitude. -/
theorem abs_nonneg_eq (y : EReal) (h : 0 ≤ y) : max y (-y) = y :=
  max_eq_left (le_trans (EReal.neg_le_zero.mpr h) h)

section Reduce

variable {s t u : Shape} {axes : List (Fin s.rank)} {φ : FTy}

/-- The bounds above a host reduction by maximum of all the axes. -/
theorem hostMax_le (x : FVec Ideal s φ) (init : FVec Ideal u φ) (h : s.ReducesTo axes t) (hu : 0 < u.numel) (j : t.Idx)
    (ht : ∀ i : t.Idx, i = j) (M : EReal) :
    (Host.reduce (FloatOps.maximumf (F := Ideal) (φ := φ)) x init h hu j : Ideal φ) ≤ (M : EReal)
      ↔ (init (Shape.Idx.first hu) : EReal) ≤ M ∧ ∀ i, (x i : EReal) ≤ M := by
  rw [Host.reduce_eq_fold, Finset.filter_true_of_mem fun i _ => ht _]
  exact (Finset.fold_max_le M).trans (and_congr Iff.rfl ⟨fun k i => k i (Finset.mem_univ _), fun k i _ => k i⟩)

/-- The bounds above a kernel's reduction by maximum of all the axes. -/
theorem vectorMax_le (x : FVec Ideal s φ) (acc : BitVec φ.bits) (h : s.Reduces axes t) (hφ : FKind.Formats φ)
    (hacc : acc = FKind.maximumf.neutral φ hφ) (j : t.Idx) (ht : ∀ i : t.Idx, i = j) (M : EReal) :
    (multiReduction .maximumf axes t x acc h hφ hacc j : Ideal φ) ≤ (M : EReal)
      ↔ (Ideal.ofBits φ acc : EReal) ≤ M ∧ ∀ i, (x i : EReal) ≤ M := by
  rw [multiReduction_maximumf_eq_fold, Finset.filter_true_of_mem fun i _ => ht _]
  exact (Finset.fold_max_le M).trans (and_congr Iff.rfl ⟨fun k i => k i (Finset.mem_univ _), fun k i _ => k i⟩)

end Reduce

end Cert.Proof

end
-- ==== Proof.Quant.lean ====
module

public import Idealize.ShloMosaic.PureOps.Ideal
public import Idealize.ShloMosaic.PureOps.Ideal.Laws

/-!
The quantiser over the extended reals.

An element `y` lies between zero and the greatest element `A`. Dividing by `A / 448`, clipping to the range of the format
and multiplying by `A / 448` gives `y` back where `A` is finite: no rounding is left over the extended reals, and the clip
cuts nothing off. Where `A` is infinite both ways of doing it give zero. The kernel divides 448 by `A` and keeps `A` away
from zero by a small constant; the reference divides by the scale. `kernel_quant` and `host_quant` say that both compute
`dequant A y`, whatever `A`.
-/

@[expose] public section

noncomputable section

namespace Cert.Proof

open Idealize.ShloMosaic

/-- What quantising and dequantising with greatest element `A` makes of `y`. -/
def dequant (A y : EReal) : EReal := if A = ⊤ then 0 else y

/-! ## The constants -/

theorem word_448 : Ideal.ofBits .f32 0x43E00000#32 = ((448 : ℝ) : EReal) := by
  simp [Ideal.ofBits, Ideal.ieee]; norm_cast; norm_num

theorem word_neg448 : Ideal.ofBits .f32 0xC3E00000#32 = ((-448 : ℝ) : EReal) := by
  simp [Ideal.ofBits, Ideal.ieee]; norm_cast; norm_num

theorem word_bot : Ideal.ofBits .f32 0xFF800000#32 = ⊥ := by
  simp [Ideal.ofBits, Ideal.ieee]

/-- The kernel's floor under the greatest element is a positive real. -/
theorem word_floor : ∃ e : ℝ, 0 < e ∧ Ideal.ofBits .f32 0x0DA24260#32 = (e : EReal) := by
  refine ⟨(10633824 : ℝ) * (2 : ℝ) ^ (-123 : ℤ), by positivity, ?_⟩
  simp [Ideal.ofBits, Ideal.ieee]

/-! ## Division -/

theorem div_real (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem div_top (x : EReal) : Ideal.div x ⊤ = 0 := by
  unfold Ideal.div
  rw [if_neg (by simp), EReal.inv_top, mul_zero]

theorem top_div (y : ℝ) (h : 0 < y) : Ideal.div ⊤ (y : EReal) = ⊤ := by
  unfold Ideal.div
  rw [if_neg (by exact_mod_cast h.ne'), ← EReal.coe_inv, EReal.top_mul_coe_of_pos (inv_pos.mpr h)]

theorem coe_max (x y : ℝ) : ((max x y : ℝ) : EReal) = max (x : EReal) (y : EReal) := EReal.coe_strictMono.monotone.map_max
theorem coe_min (x y : ℝ) : ((min x y : ℝ) : EReal) = min (x : EReal) (y : EReal) := EReal.coe_strictMono.monotone.map_min

/-! ## The two quantisers -/

/-- The kernel's: multiply by `448 / g`, clip to `[0, 448]`, multiply by `g / 448`, with `g` the greatest element or the
floor `e`. -/
theorem kernel_quant (A y : EReal) (e : ℝ) (he : 0 < e) (h0 : 0 ≤ y) (hy : y ≤ A) :
    min ((448 : ℝ) : EReal) (max 0 (y * Ideal.div ((448 : ℝ) : EReal) (max A e))) * Ideal.div (max A e) ((448 : ℝ) : EReal)
      = dequant A y := by
  unfold dequant
  by_cases hA : A = ⊤
  · subst hA
    rw [if_pos rfl, max_eq_left (le_top : (e : EReal) ≤ ⊤), div_top, mul_zero, max_self, min_eq_right (by exact_mod_cast (by norm_num : (0 : ℝ) ≤ 448)), zero_mul]
  · rw [if_neg hA]
    lift A to ℝ using ⟨hA, fun h => by subst h; exact absurd (h0.trans hy) (by simp)⟩
    lift y to ℝ using ⟨fun h => by subst h; simp at hy, fun h => by subst h; simp at h0⟩
    have h0 : (0 : ℝ) ≤ y := by exact_mod_cast h0
    have hy : y ≤ A := by exact_mod_cast hy
    have hg : 0 < max A e := lt_max_of_lt_right he
    have hyg : y ≤ max A e := hy.trans (le_max_left _ _)
    rw [← coe_max, div_real _ _ hg.ne', div_real _ _ (by norm_num), ← EReal.coe_zero, ← EReal.coe_mul, ← coe_max, ← coe_min, ← EReal.coe_mul]
    congr 1
    rw [max_eq_right (by positivity), min_eq_right (by rw [← mul_div_assoc, div_le_iff₀ hg]; nlinarith)]
    field_simp

/-- The reference's: divide by the scale `A / 448`, clip to `[-448, 448]`, multiply by the scale. -/
theorem host_quant (A y : EReal) (h0 : 0 ≤ y) (hy : y ≤ A) :
    min ((448 : ℝ) : EReal) (max ((-448 : ℝ) : EReal) (Ideal.div y (Ideal.div A ((448 : ℝ) : EReal)))) * Ideal.div A ((448 : ℝ) : EReal)
      = dequant A y := by
  unfold dequant
  by_cases hA : A = ⊤
  · subst hA
    rw [if_pos rfl, top_div _ (by norm_num), div_top, max_eq_right (by exact_mod_cast (by norm_num : (-448 : ℝ) ≤ 0)), min_eq_right (by exact_mod_cast (by norm_num : (0 : ℝ) ≤ 448)), zero_mul]
  · rw [if_neg hA]
    lift A to ℝ using ⟨hA, fun h => by subst h; exact absurd (h0.trans hy) (by simp)⟩
    lift y to ℝ using ⟨fun h => by subst h; simp at hy, fun h => by subst h; simp at h0⟩
    have h0 : (0 : ℝ) ≤ y := by exact_mod_cast h0
    have hy : y ≤ A := by exact_mod_cast hy
    rw [div_real _ _ (by norm_num)]
    rcases (h0.trans hy).eq_or_lt with hz | hp
    · have : y = 0 := le_antisymm (hz ▸ hy) h0
      subst this; subst hz
      simp
    · rw [div_real _ _ (by positivity), ← coe_max, ← coe_min, ← EReal.coe_mul]
      congr 1
      have e1 : y / (A / 448) = 448 * y / A := by field_simp
      have b1 : 0 ≤ 448 * y / A := by positivity
      rw [e1, max_eq_right (by linarith), min_eq_right (by rw [div_le_iff₀ hp]; nlinarith)]
      field_simp

end Cert.Proof

end
-- ==== Proof.Payloads.lean ====
module

public import proofs.«01_k».proof.Proof.Gen.KernelIdeal.Skeleton
public import Idealize.ShloMosaic.Lib.Pipeline.Value
public import Idealize.ShloMosaic.Lib.MatmulPlain
public import proofs.«01_k».proof.Proof.Whole
public import proofs.«01_k».proof.Proof.Quant

/-!
What the kernel's operations compute, over the extended reals: a chunk of the product, the maximum of a chunk, the maximum
of the gathered tiles, an element quantised and an element dequantised.
-/

@[expose] public section

noncomputable section

namespace Cert.Proof

open Cert.KernelIdeal Cert.KernelIdeal.Gen
open Idealize.ShloMosaic Idealize.ShloMosaic.ValueIdx

/-- The same bounds are above a vector and above the vector in another shape. -/
theorem cast_le {s t : Shape} (v : s.Idx → EReal) (h : s.ShapeCasts t) (M : EReal) :
    (∀ j, shapeCast t v h j ≤ M) ↔ ∀ i, v i ≤ M :=
  ((Shape.reshapeEquiv h).surjective.forall (p := fun i => v i ≤ M)).symm

theorem one_index (i j : S1.Idx) : i = j := funext fun a => by
  match a with
  | ⟨0, _⟩ => exact Subsingleton.elim (α := Fin 1) _ _

/-! ## A chunk of the product -/

/-- A chunk of the product, after the rectifier. -/
theorem chunk_apply (x : Vec Ideal S1024x4096 .f32) (w : Vec Ideal S1x4096x512 .f32) (r : Fin 1024) (k : Fin 512) :
    (k0_pay1 x w (ix2 r k) : EReal) = prod x (fun i : S4096x512.Idx => w (ix3 (0 : Fin 1) (i 0) (i 1))) r k := by
  have h := Ideal.matmul_plain_apply (φ₁ := .f32) (φ₂ := .f32) none (shapeCast S1024x4096 x shapeCasts_S1024x4096_S1024x4096)
    (shapeCast S4096x512 w shapeCasts_S1x4096x512_S4096x512) (constant (F := Ideal) S1024x512 .f32 0x00000000#32) r k
  refine (congrArg₂ max (h.trans ?_) Ideal.ofBits_zero_f32)
  refine (congrArg₂ (· + ·) Ideal.ofBits_zero_f32 (Finset.sum_congr rfl fun l _ => ?_)).trans (zero_add _)
  rw [shapeCast_self]
  refine congrArg (x (ix2 r l) * ·) (shapeCast_apply w _ _ _ ?_)
  rw [Shape.rowMajor_val_three, Shape.rowMajor_val_two]
  show (0 * 4096 + l.val) * 512 + k.val = l.val * 512 + k.val
  omega

/-- The maximum of a chunk, as the kernel computes it. -/
def chunkMax {F : FTy → Type} [FloatOps F] (v : FVec F S1024x512 .f32) : F .f32 :=
  extractAt ![0, 0, 0] (shapeCast S1x1x1 (multiReduction .maximumf [1, 2] S1
    (shapeCast S1x1024x512 v shapeCasts_S1024x512_S1x1024x512) 0xFF800000#32 reduces_S1x1024x512_S1 (.inl rfl) rfl)
    shapeCasts_S1_S1x1x1) inpos_S1x1x1_p0_0_0

theorem chunkMax_le (v : FVec Ideal S1024x512 .f32) (M : EReal) : (chunkMax v : EReal) ≤ M ↔ ∀ r k, (v (ix2 r k) : EReal) ≤ M := by
  refine (vectorMax_le _ _ _ (.inl rfl) rfl _ (fun i => one_index i _) M).trans ?_
  refine (and_iff_right (le_of_eq_of_le word_bot bot_le)).trans ((cast_le v _ M).trans ⟨fun h r k => h _, fun h i => ?_⟩)
  rw [eq_ix2 i]
  exact h _ _

section Steps

variable {F : FTy → Type} [FloatOps F]

theorem pay3_eq (x : Vec F S1024x4096 .f32) (w : Vec F S1x4096x512 .f32) :
    k0_pay3 x w = Scalar.maximumf (Scalar.ofBits .f32 0x00000000#32) (chunkMax (k0_pay1 x w)) := rfl

theorem pay6_eq (z : F .f32) (x : Vec F S1024x4096 .f32) (w : Vec F S1x4096x512 .f32) :
    k0_pay6 z x w = Scalar.maximumf z (chunkMax (k0_pay1 x w)) := rfl

theorem pay12_eq (z : F .f32) (x : Vec F S1024x4096 .f32) (w w' : Vec F S1x4096x512 .f32) :
    k0_pay12 z (k0_pay7 x) w x w' = broadcast S1x8x128
      (Scalar.maximumf (Scalar.maximumf z (chunkMax (k0_pay1 x w))) (chunkMax (k0_pay1 x w'))) := rfl

theorem tile_eq (x : Vec F S1024x4096 .f32) (w : Fin 4 → Vec F S1x4096x512 .f32) (i : S1x8x128.Idx) :
    k0_pay13 (k0_pay12 (k0_pay6 (k0_pay3 x (w 0)) x (w 1)) (k0_pay7 x) (w 2) x (w 3)) i
      = Scalar.maximumf (Scalar.maximumf (Scalar.maximumf (Scalar.maximumf (Scalar.ofBits .f32 0x00000000#32)
        (chunkMax (k0_pay1 x (w 0)))) (chunkMax (k0_pay1 x (w 1)))) (chunkMax (k0_pay1 x (w 2))))
        (chunkMax (k0_pay1 x (w 3))) := by
  rw [pay3_eq, pay6_eq, pay12_eq]
  unfold k0_pay13
  rw [shapeCast_self]
  rfl

end Steps

/-- The bounds above the greater of two. -/
theorem scalarMax_le (a b : Ideal .f32) (M : EReal) : (Scalar.maximumf a b : EReal) ≤ M ↔ (a : EReal) ≤ M ∧ (b : EReal) ≤ M :=
  max_le_iff (α := EReal)

/-- The maximum of the four chunks of a device, in every element of its tile. -/
theorem tile_le (x : Vec Ideal S1024x4096 .f32) (w : Fin 4 → Vec Ideal S1x4096x512 .f32) (i : S1x8x128.Idx) (M : EReal) :
    (k0_pay13 (k0_pay12 (k0_pay6 (k0_pay3 x (w 0)) x (w 1)) (k0_pay7 x) (w 2) x (w 3)) i : EReal) ≤ M
      ↔ 0 ≤ M ∧ ∀ j r k, (k0_pay1 x (w j) (ix2 r k) : EReal) ≤ M := by
  rw [tile_eq, scalarMax_le, scalarMax_le, scalarMax_le, scalarMax_le, chunkMax_le, chunkMax_le, chunkMax_le, chunkMax_le]
  have z : ((Scalar.ofBits (F := Ideal) .f32 0x00000000#32 : Ideal .f32) : EReal) = 0 := Ideal.ofBits_zero_f32
  rw [z]
  refine ⟨fun h => ⟨h.1.1.1.1, fun j => ?_⟩, fun h => ⟨⟨⟨⟨h.1, h.2 0⟩, h.2 1⟩, h.2 2⟩, h.2 3⟩⟩
  match j with
  | 0 => exact h.1.1.1.2
  | 1 => exact h.1.1.2
  | 2 => exact h.1.2
  | 3 => exact h.2

/-! ## The gathered tiles -/

/-- The maximum of the gathered tiles, as the kernel computes it. -/
def tilesMax {F : FTy → Type} [FloatOps F] (v : Vec F S4x8x128 .f32) : F .f32 :=
  extractAt ![0, 0, 0, 0] (shapeCast S1x1x1x1 (multiReduction .maximumf [1, 2, 3] S1 (k0_pay14 v) 0xFF800000#32
    reduces_S1x4x8x128_S1 (.inl rfl) rfl) shapeCasts_S1_S1x1x1x1) inpos_S1x1x1x1_p0_0_0_0

theorem tilesMax_le (v : Vec Ideal S4x8x128 .f32) (M : EReal) : (tilesMax v : EReal) ≤ M ↔ ∀ i, (v i : EReal) ≤ M := by
  refine (vectorMax_le _ _ _ (.inl rfl) rfl _ (fun i => one_index i _) M).trans ?_
  exact (and_iff_right (le_of_eq_of_le word_bot bot_le)).trans (cast_le v _ M)

/-! ## Quantised and dequantised -/

section Steps

variable {F : FTy → Type} [FloatOps F]

theorem pay15_eq (v : Vec F S4x8x128 .f32) :
    k0_pay15 (k0_pay14 v) = Scalar.maximumf (tilesMax v) (Scalar.ofBits .f32 0x0DA24260#32) := rfl

theorem pay22_eq (t : FVec F S1x4x8x128 .f32) (y : Vec F S1x1024x512 .f32) (i : S1024x512.Idx) :
    k0_pay22 (k0_pay16 t) (k0_pay18 t y) i = FloatOps.mulf (FloatOps.extf .f32 bitsLt_fp8e4m3_f32
      (FloatOps.truncf .fp8e4m3 bitsLt_fp8e4m3_f32 (FloatOps.minimumf (FloatOps.ofBits .f32 0x43E00000#32)
        (FloatOps.maximumf (FloatOps.ofBits .f32 0x00000000#32)
          (FloatOps.mulf (shapeCast S1024x512 y shapeCasts_S1x1024x512_S1024x512 i)
            (Scalar.divf (Scalar.ofBits .f32 0x43E00000#32) (k0_pay15 t)))))))
      (Scalar.divf (k0_pay15 t) (Scalar.ofBits .f32 0x43E00000#32)) := by
  unfold k0_pay22 k0_pay18
  dsimp only
  rw [shapeCast_shapeCast]
  rfl

end Steps

/-- An element quantised on one device and dequantised on another. -/
theorem quant_dequant (v : Vec Ideal S4x8x128 .f32) (y : Vec Ideal S1x1024x512 .f32) (r : Fin 1024) (k : Fin 512)
    (h0 : (0 : EReal) ≤ y (ix3 (0 : Fin 1) r k)) (hA : (y (ix3 (0 : Fin 1) r k) : EReal) ≤ tilesMax v) :
    (k0_pay22 (k0_pay16 (k0_pay14 v)) (k0_pay18 (k0_pay14 v) y) (ix2 r k) : EReal)
      = dequant (tilesMax v) (y (ix3 (0 : Fin 1) r k)) := by
  obtain ⟨e, he, hw⟩ := word_floor
  have e1 : (k0_pay22 (k0_pay16 (k0_pay14 v)) (k0_pay18 (k0_pay14 v) y) (ix2 r k) : EReal)
      = min (Ideal.ofBits .f32 0x43E00000#32) (max (Ideal.ofBits .f32 0#32)
          (shapeCast S1024x512 y shapeCasts_S1x1024x512_S1024x512 (ix2 r k)
            * Ideal.div (Ideal.ofBits .f32 0x43E00000#32) (max (tilesMax v) (Ideal.ofBits .f32 0x0DA24260#32))))
        * Ideal.div (max (tilesMax v) (Ideal.ofBits .f32 0x0DA24260#32)) (Ideal.ofBits .f32 0x43E00000#32) := by
    rw [pay22_eq, pay15_eq]
    generalize tilesMax v = A
    generalize shapeCast S1024x512 y shapeCasts_S1x1024x512_S1024x512 (ix2 r k) = Y
    rfl
  have e2 : shapeCast S1024x512 y shapeCasts_S1x1024x512_S1024x512 (ix2 r k) = y (ix3 (0 : Fin 1) r k) := by
    refine shapeCast_apply y _ _ _ ?_
    rw [Shape.rowMajor_val_three, Shape.rowMajor_val_two]
    show (0 * 1024 + r.val) * 512 + k.val = r.val * 512 + k.val
    omega
  rw [e1, e2, Ideal.ofBits_zero_f32, word_448, hw]
  exact kernel_quant _ _ e he h0 hA

end Cert.Proof

end
-- ==== Proof.KernelValue.lean ====
module

public import proofs.«01_k».proof.Proof.Run
public import proofs.«01_k».proof.Proof.Payloads

/-!
What the kernel leaves on every device, over the extended reals, when the devices hold the rows of a matrix `x` and every
one of them the whole of `w`: device `c` ends with the columns of block `c` of the layer on the whole matrices.
-/

@[expose] public section

noncomputable section

namespace Cert.Proof

open Cert.KernelIdeal Cert.KernelIdeal.Gen
open Idealize.ShloMosaic Idealize.ShloMosaic.TcCoe Idealize.ShloMosaic.ValueIdx Idealize.SL.Sem

section Arrays

variable {F : FTy → Type} [FloatOps F]
variable (m : (ℓ : Loc nD τ sig) → Buf (Elt F) ℓ) (ρ : Dev nD → PrngReg)

/-- The block of `x` is the whole of it. -/
theorem X_eq (c : Dev nD) : X m c = m ((c : Thread nD τ).loc main_arg0) :=
  funext fun i => congrArg (m ((c : Thread nD τ).loc main_arg0))
    (funext fun a => Fin.ext (win0_0.rect_emb_val_of_index_zero (0 : Fin 1) a rfl i))

/-- The result after the run is what the body leaves. -/
theorem finalA_out (c : Dev nD) : finalA m ρ c (1 : Fin 2) = outAt m c := by
  refine (dats (F := F) m ρ 0 c).arrAt_eq_of_cover (1 : Fin 2) (outAt m c) (fun t _ => ?_) (fun i => ⟨t₀, flush0_1 t₀, ?_⟩)
  · funext i
    refine Eq.trans (b := outAt m c i) ?_ ?_
    · show (cfg0.win 1).cut (grid0.coords t) ((dats (F := F) m ρ 0 c).after 1 t) i = _
      dsimp only [dats]
    · exact (congrArg (outAt m c) (funext fun a => Fin.ext ((cfg0.win 1).rect_emb_val_of_index_zero t a rfl i))).symm
  · have e : ((cfg0.win 1).blk t₀).view.emb i = i :=
      funext fun a => Fin.ext ((cfg0.win 1).rect_emb_val_of_index_zero t₀ a rfl i)
    exact Eq.subst (motive := fun j => j ∈ ((cfg0.win 1).blk t₀).view.set) e (View.emb_mem_set _ i)

end Arrays

variable (m : (ℓ : Loc nD τ sig) → Buf (Elt Ideal) ℓ)

/-- Row `r` of device `d`'s block is this row of the whole. -/
def row (d : Fin 4) (r : Fin 1024) : Fin 4096 := ⟨d.val * 1024 + r.val, by omega⟩
/-- Column `k` of block `j` is this column of the whole. -/
def col (j : Fin 4) (k : Fin 512) : Fin 2048 := ⟨j.val * 512 + k.val, by omega⟩

theorem row_col_all {P : Fin 4096 → Fin 2048 → Prop} : (∀ d j r k, P (row d r) (col j k)) ↔ ∀ i l, P i l := by
  refine ⟨fun h i l => ?_, fun h d j r k => h _ _⟩
  have e : row ⟨i.val / 1024, by omega⟩ ⟨i.val % 1024, by omega⟩ = i := Fin.ext (by show i.val / 1024 * 1024 + i.val % 1024 = i.val; omega)
  have e' : col ⟨l.val / 512, by omega⟩ ⟨l.val % 512, by omega⟩ = l := Fin.ext (by show l.val / 512 * 512 + l.val % 512 = l.val; omega)
  rw [← e, ← e']
  exact h _ _ _ _

/-- The devices hold the rows of `x`, and each of them `w`. -/
structure Holds (x : Mat 4096 4096) (w : Mat 4096 2048) : Prop where
  rows : ∀ (d : Dev nD) (r : Fin 1024) (l : Fin 4096), m ((d : Thread nD τ).loc main_arg0) (ix2 r l) = x (ix2 (row d r) l)
  same : ∀ d : Dev nD, m ((d : Thread nD τ).loc main_arg1) = w

variable {m} {x : Mat 4096 4096} {w : Mat 4096 2048}

/-- Chunk `j` on device `d`. -/
theorem chunk_eq (H : Holds m x w) (d : Dev nD) (j : Fin 4) (r : Fin 1024) (k : Fin 512) :
    (k0_pay1 (X m d) (wv m d j) (ix2 r k) : EReal) = prod x w (row d r) (col j k) := by
  rw [chunk_apply, X_eq]
  refine congrArg (max · 0) (Finset.sum_congr rfl fun l _ => congrArg₂ (fun a b : EReal => a * b) (H.rows d r l) ?_)
  refine (congrFun (H.same d) _).trans (congrArg w (funext fun a => Fin.ext ?_))
  match a with
  | ⟨0, _⟩ => rfl
  | ⟨1, _⟩ => show 512 * j.val + k.val = j.val * 512 + k.val; omega

/-- The maximum of the gathered tiles is the greatest element of the whole. -/
theorem tilesMax_eq (H : Holds m x w) : (tilesMax (AM m) : EReal) = amax x w := by
  refine eq_of_forall_ge_iff fun M => ?_
  rw [tilesMax_le, amax_le, ← row_col_all]
  have t (d : Dev nD) (i : S1x8x128.Idx) := tile_le (X m d) (wv m d) i M
  refine ⟨fun h d j r k => ?_, fun h i => ?_⟩
  · rw [← chunk_eq H]
    exact ((t d (ix3 0 0 0)).1 (h (ix3 d 0 0))).2 j r k
  · refine (t (i 0) (ix3 (⟨0, Nat.one_pos⟩ : Fin 1) (i 1) (i 2))).2 ⟨le_trans (prod_nonneg x w _ _) (h 0 0 0 0), fun j r k =>
      le_of_eq_of_le (chunk_eq H (i 0) j r k) (h _ j r k)⟩

/-- An element of chunk `j` as device `d` keeps it. -/
theorem yv_eq (H : Holds m x w) (d : Dev nD) (j : Fin 4) (r : Fin 1024) (k : Fin 512) :
    (yv m d j (ix3 (0 : Fin 1) r k) : EReal) = prod x w (row d r) (col j k) := by
  rw [← chunk_eq H]
  refine shapeCast_apply (k0_pay1 (X m d) (wv m d j)) _ _ (ix2 r k) ?_
  rw [Shape.rowMajor_val_three, Shape.rowMajor_val_two]
  show r.val * 512 + k.val = (0 * 1024 + r.val) * 512 + k.val
  omega

/-- What device `c` makes of the block that device `s` sends it. -/
theorem ov_eq (H : Holds m x w) (c s : Dev nD) (r : Fin 1024) (k : Fin 512) :
    (ov m c s (ix2 r k) : EReal) = dequant (amax x w) (prod x w (row s r) (col c k)) := by
  have e := yv_eq H s c r k
  rw [← e, ← tilesMax_eq H]
  refine quant_dequant (AM m) (yv m s c) r k ?_ ?_
  · rw [e]; exact prod_nonneg _ _ _ _
  · rw [e, tilesMax_eq H]; exact prod_le_amax _ _ _ _

/-- The result on device `c`. -/
theorem out_eq (H : Holds m x w) (c : Dev nD) (i : Fin 4096) (k : Fin 512) :
    (outAt m c (ix2 i k) : EReal) = dequant (amax x w) (prod x w i (col c k)) := by
  refine (ov_eq H c ⟨i.val / 1024, _⟩ ⟨i.val % 1024, _⟩ k).trans ?_
  refine congrArg (fun z => dequant (amax x w) (prod x w z (col c k))) (Fin.ext ?_)
  show i.val / 1024 * 1024 + i.val % 1024 = i.val
  omega

end Cert.Proof

end
-- ==== Proof.RefValue.lean ====
module

public import proofs.«01_k».proof.Proof.Gen.ReferenceIdeal.Value
public import Idealize.ShloMosaic.Lib.StableHlo.ReadAt
public import Idealize.ShloMosaic.Lib.StableHlo.RunRead
public import proofs.«01_k».proof.Proof.Quant
public import proofs.«01_k».proof.Proof.Whole

/-!
What the reference computes, over the extended reals: every element of the product after the rectifier, quantised with the
greatest of them and dequantised.
-/

@[expose] public section

noncomputable section

namespace Cert.Proof.Ref

open Cert.Proof
open Cert.ReferenceIdeal Cert.ReferenceIdeal.Gen Cert.ReferenceIdeal.Value
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first matrix. -/
abbrev x₀ : Mat 4096 4096 := m (((0 : Dev nD) : Thread nD τ).loc main_arg0)
/-- The second matrix. -/
abbrev w₀ : Mat 4096 2048 := m (((0 : Dev nD) : Thread nD τ).loc main_arg1)

/-- The result. -/
def result : Mat 4096 2048 := fun i => dequant (amax (x₀ m) (w₀ m)) (prod (x₀ m) (w₀ m) (i 0) (i 1))

/-- The product on the host. -/
abbrev hostDot : FVec Ideal S4096x2048 .f32 :=
  Host.dotGeneral (φ₁ := .f32) (φ₂ := .f32) dot_S4096x4096_S4096x2048_S4096x2048_1_0_0_1_n_n none (x₀ m) (w₀ m)

/-- After the rectifier it is `prod`. -/
theorem dot_apply (i : S4096x2048.Idx) :
    max (hostDot m i : EReal) (Ideal.ofBits .f32 0#32) = prod (x₀ m) (w₀ m) (i 0) (i 1) := by
  rw [Ideal.ofBits_zero_f32]
  conv_lhs => rw [ValueIdx.eq_ix2 i]
  exact congrArg (max · 0) (StackMember.dotGeneral_plain_apply (φ₁ := .f32) (φ₂ := .f32) none (x₀ m) (w₀ m) (i 0) (i 1))

/-- The scale: the greatest element over 448. -/
theorem scale_apply (i : S1x1.Idx) :
    (V m 0 main_v10 i : EReal) = Ideal.div (amax (x₀ m) (w₀ m)) ((448 : ℝ) : EReal) := by
  refine Eq.trans (b := Ideal.div (Host.reduce (FloatOps.maximumf (F := Ideal) (φ := .f32)) (Host.absf (maximumf (hostDot m)
    (broadcastInDim S4096x2048 ![] bcast_S_S4096x2048 (constant S_ .f32 0#32)))) (constant S_ .f32 4286578688#32)
    reducesTo_S4096x2048_S_d0_1 h_S_ Idealize.ShloMosaic.ix0 : Ideal .f32) (Ideal.ofBits .f32 1138753536#32)) ?_ ?_
  · unfold V
    after_reads_at
    rfl
  · refine congrArg₂ Ideal.div (eq_of_forall_ge_iff fun M => ?_) word_448
    refine (hostMax_le _ _ _ _ _ (fun _ => funext fun a => a.elim0) M).trans ?_
    rw [amax_le]
    have e (k : S4096x2048.Idx) : (Host.absf (F := Ideal) (φ := .f32) (maximumf (hostDot m)
        (broadcastInDim S4096x2048 ![] bcast_S_S4096x2048 (constant S_ .f32 0#32))) k : EReal)
        = prod (x₀ m) (w₀ m) (k 0) (k 1) := by
      refine Eq.trans ?_ (abs_nonneg_eq _ (prod_nonneg _ _ _ _))
      rw [← dot_apply]
      rfl
    refine ⟨fun k i j => ?_, fun k => ⟨le_of_eq_of_le word_bot bot_le, fun i => ?_⟩⟩
    · exact le_of_eq_of_le (e (ValueIdx.ix2 i j)).symm (k.2 _)
    · exact le_of_eq_of_le (e i) (k _ _)

/-- The quantised element. -/
theorem quant_apply (i : S4096x2048.Idx) :
    (V m 0 main_v9 i : EReal) = min ((448 : ℝ) : EReal) (max ((-448 : ℝ) : EReal)
      (Ideal.div (prod (x₀ m) (w₀ m) (i 0) (i 1)) (Ideal.div (amax (x₀ m) (w₀ m)) ((448 : ℝ) : EReal)))) := by
  rw [← scale_apply m (ValueIdx.ix2 0 0), ← dot_apply, ← word_448, ← word_neg448]
  unfold V
  after_reads_at
  rfl

theorem read0 (t : Fin cfg0.N) (f : Vec Ideal S4096x2048 .fp8e4m3) (x : S4096x2048.Idx) :
    ((cfg0.win 0).blk t).view.read (Elt Ideal) f x = f x :=
  congrArg f (funext fun a => Fin.ext ((cfg0.win 0).rect_emb_val_of_index_zero t a rfl x))

theorem read1 (t : Fin cfg0.N) (f : Vec Ideal S1x1 .f32) (x : S1x1.Idx) :
    ((cfg0.win 1).blk t).view.read (Elt Ideal) f x = f x :=
  congrArg f (funext fun a => Fin.ext ((cfg0.win 1).rect_emb_val_of_index_zero t a rfl x))

theorem read2 (t : Fin cfg0.N) (f : Vec Ideal S4096x2048 .f32) (x : S4096x2048.Idx) :
    ((cfg0.win 2).blk t).view.read (Elt Ideal) f x = f x :=
  congrArg f (funext fun a => Fin.ext ((cfg0.win 2).rect_emb_val_of_index_zero t a rfl x))

/-- What the only point of the grid leaves of the result. -/
theorem out_apply (t : Fin cfg0.N) (i : S4096x2048.Idx) :
    (out0_2 (iblk m 0 0 t) (iblk m 0 1 t) i : EReal) = result m i := by
  refine (canon2_eq _ _ i).trans ?_
  have e0 : (View.ld (iblk m 0 0 t) r0_0 (ix2_0 i) : EReal) = V m 0 main_v9 i := by
    refine (read0 t (V m 0 main_v9) _).trans (congrArg _ (funext fun a => Fin.ext ?_))
    match a with
    | ⟨0, _⟩ => show 0 + 1 * (i 0).val = (i 0).val; omega
    | ⟨1, _⟩ => show 0 + 1 * (i 1).val = (i 1).val; omega
  have e1 : (View.ld (iblk m 0 1 t) r0_1 (ix2_1 i) : EReal) = Ideal.div (amax (x₀ m) (w₀ m)) ((448 : ℝ) : EReal) :=
    (read1 t (V m 0 main_v10) _).trans (scale_apply m _)
  refine (congrArg₂ (fun a b : EReal => a * b) e0 e1).trans ?_
  rw [quant_apply]
  exact host_quant _ _ (prod_nonneg _ _ _ _) (prod_le_amax _ _ _ _)

/-- The only point of the grid. -/
abbrev t₀ : Fin cfg0.N := ⟨0, by decide⟩

/-- The result after the run. -/
theorem final : (dats m 0 0).arrAt 2 cfg0.N = result m := by
  refine (dats m 0 0).arrAt_eq_of_cover 2 (result m) (fun t _ => ?_) (fun i => ⟨t₀, rfl, ?_⟩)
  · rw [flushed2]
    funext x
    exact (out_apply m t _).trans (read2 t (result m) x).symm
  · have e : ((cfg0.win 2).blk t₀).view.emb i = i :=
      funext fun a => Fin.ext ((cfg0.win 2).rect_emb_val_of_index_zero t₀ a rfl i)
    exact Eq.subst (motive := fun j => j ∈ ((cfg0.win 2).blk t₀).view.set) e (View.emb_mem_set _ i)

/-- The reference runs, ends with `result` and leaves its arguments as they were. -/
theorem run : θ_run defs (onTc (τ := τ) (main (F := Ideal))) ⟨m, fun _ => 0, ρ⟩ fun r =>
    r.2.mem (((0 : Dev nD) : Thread nD τ).loc main_v11) = result m
    ∧ r.2.mem (((0 : Dev nD) : Thread nD τ).loc main_arg0) = m (((0 : Dev nD) : Thread nD τ).loc main_arg0)
    ∧ r.2.mem (((0 : Dev nD) : Thread nD τ).loc main_arg1) = m (((0 : Dev nD) : Thread nD τ).loc main_arg1) :=
  (θ_run defs _ _).mono (fun r h => ⟨(h 0).1.trans (final m), (h 0).2⟩) (run_blocks m ρ)

end Cert.Proof.Ref

end
-- ==== Proof.Algebraic.lean ====
module

public import proofs.«01_k».proof.Defs
public import proofs.«01_k».proof.Proof.KernelValue
public import proofs.«01_k».proof.Proof.RefValue

/-!
The kernel computes the layer: over the extended reals each device ends with its block of columns of what the reference
computes from the whole matrices.
-/

@[expose] public section

noncomputable section

namespace Cert.Proof

open Idealize.ShloMosaic Idealize.ShloMosaic.TcCoe Idealize.SL.Sem

theorem algebraic : Cert.algebraic_KernelIdeal_ReferenceIdeal := by
  intro m ρ m' ρ' _ h
  have H : Holds m (Ref.x₀ m') (Ref.w₀ m') := by
    refine ⟨fun d r l => ?_, fun d => (h d).2⟩
    rw [(h d).1]
    refine congrArg (Ref.x₀ m') (funext fun a => Fin.ext ?_)
    match a with
    | ⟨0, _⟩ => rfl
    | ⟨1, _⟩ => rfl
  refine ⟨Ref.result m', ?_, Ref.run m' ρ'⟩
  refine (θ_run _ _ _).mono (fun r k c => ⟨?_, ((k.1 c).1 (0 : Fin 2)).trans (finalA_x m ρ c), (k.1 c).2⟩) (run_main m ρ)
  refine ((k.1 c).1 (1 : Fin 2)).trans ((finalA_out m ρ c).trans (funext fun i => ?_))
  rw [ValueIdx.eq_ix2 i]
  exact out_eq H c (i 0) (i 1)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  frame_kernel, frame_ideal, frame_reference, trivial, algebraic⟩

end Cert.Proof

end
